-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 2, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![2048, 2048]⟩ (Layout.meshBlock [2, 2, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![128, 2048]⟩ ⟨2, ![512, 2048]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S128x2048 : Shape := ⟨2, ![128, 2048]⟩
abbrev S128x512 : Shape := ⟨2, ![128, 512]⟩
abbrev S4x2 : Shape := ⟨2, ![4, 2]⟩
abbrev S3 : Shape := ⟨1, ![3]⟩
abbrev S2 : Shape := ⟨1, ![2]⟩
abbrev S_ : Shape := ⟨0, ![]⟩
abbrev S1 : Shape := ⟨1, ![1]⟩
abbrev S1x1 : Shape := ⟨2, ![1, 1]⟩
abbrev S128x256 : Shape := ⟨2, ![128, 256]⟩

abbrev nBuf : Space → Nat
  | .hbm => 3
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S128x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S128x512, .f32⟩
  | .local _ .vmem, ⟨4, _⟩ => ⟨S512x512, .f32⟩
  | .local _ .vmem, ⟨5, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32_4 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v11 : BitVec 32 := Scalar.muli v10 c512_i32
  ![0, v11.toNat]
def k0_dev1 (d0 : Dev nD) : Nat :=
  let c0_i32_8 : BitVec 32 := 0#32
  let c1_i32_5 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_5 v2
  let c8_i32_7 : BitVec 32 := 8#32
  let v19 : BitVec 32 := Scalar.muli v18 c8_i32_7
  let v20 : BitVec 32 := Scalar.addi c0_i32_8 v19
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9 : BitVec 32 := 4#32
  let v21 : BitVec 32 := Scalar.muli v5 c4_i32_9
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v23 : BitVec 32 := Scalar.muli v8 c1_i32_10
  let v24 : BitVec 32 := Scalar.addi v22 v23
  v24.toNat
def k0_dev2 (d0 : Dev nD) : Nat :=
  let c0_i32_14 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_13 : BitVec 32 := 8#32
  let v26 : BitVec 32 := Scalar.muli v2 c8_i32_13
  let v27 : BitVec 32 := Scalar.addi c0_i32_14 v26
  let c1_i32_11 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_11 v5
  let c4_i32_15 : BitVec 32 := 4#32
  let v28 : BitVec 32 := Scalar.muli v25 c4_i32_15
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v30 : BitVec 32 := Scalar.muli v8 c1_i32_16
  let v31 : BitVec 32 := Scalar.addi v29 v30
  v31.toNat
def k0_dev3 (d0 : Dev nD) : Nat :=
  let c0_i32_21 : BitVec 32 := 0#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_17 v2
  let c8_i32_20 : BitVec 32 := 8#32
  let v34 : BitVec 32 := Scalar.muli v32 c8_i32_20
  let v35 : BitVec 32 := Scalar.addi c0_i32_21 v34
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v33 : BitVec 32 := Scalar.subi c1_i32_18 v5
  let c4_i32_22 : BitVec 32 := 4#32
  let v36 : BitVec 32 := Scalar.muli v33 c4_i32_22
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v38 : BitVec 32 := Scalar.muli v8 c1_i32_23
  let v39 : BitVec 32 := Scalar.addi v37 v38
  v39.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_24 : BitVec 32 := 0#32
  let v40 : BitVec 1 := Scalar.cmpi .sgt v8 c0_i32_24
  let v41 : BitVec 32 := Scalar.extui v40
  let c0_i32_25 : BitVec 32 := 0#32
  let v42 : BitVec 1 := Scalar.cmpi .ne v41 c0_i32_25
  v42

def k0_dev4 (d0 : Dev nD) : Nat :=
  let c0_i32_671 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_670 : BitVec 32 := 8#32
  let v565 : BitVec 32 := Scalar.muli v2 c8_i32_670
  let v566 : BitVec 32 := Scalar.addi c0_i32_671 v565
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_672 : BitVec 32 := 4#32
  let v567 : BitVec 32 := Scalar.muli v5 c4_i32_672
  let v568 : BitVec 32 := Scalar.addi v566 v567
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_668 : BitVec 32 := 1#32
  let v564 : BitVec 32 := Scalar.subi v8 c1_i32_668
  let c1_i32_673 : BitVec 32 := 1#32
  let v569 : BitVec 32 := Scalar.muli v564 c1_i32_673
  let v570 : BitVec 32 := Scalar.addi v568 v569
  v570.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v43 : BitVec 1 := Scalar.cmpi .slt v8 c3_i32
  let v44 : BitVec 32 := Scalar.extui v43
  let c0_i32_26 : BitVec 32 := 0#32
  let v45 : BitVec 1 := Scalar.cmpi .ne v44 c0_i32_26
  v45

def k0_dev5 (d0 : Dev nD) : Nat :=
  let c0_i32_671 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_670 : BitVec 32 := 8#32
  let v565 : BitVec 32 := Scalar.muli v2 c8_i32_670
  let v566 : BitVec 32 := Scalar.addi c0_i32_671 v565
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_672 : BitVec 32 := 4#32
  let v567 : BitVec 32 := Scalar.muli v5 c4_i32_672
  let v568 : BitVec 32 := Scalar.addi v566 v567
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_668 : BitVec 32 := 1#32
  let v564 : BitVec 32 := Scalar.addi v8 c1_i32_668
  let c1_i32_673 : BitVec 32 := 1#32
  let v569 : BitVec 32 := Scalar.muli v564 c1_i32_673
  let v570 : BitVec 32 := Scalar.addi v568 v569
  v570.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_43 : BitVec 32 := 0#32
  let v69 : BitVec 1 := Scalar.cmpi .eq v8 c0_i32_43
  let v70 : BitVec 32 := Scalar.extui v69
  let c0_i32_52 : BitVec 32 := 0#32
  let v71 : BitVec 1 := Scalar.cmpi .ne v70 c0_i32_52
  v71

def k0_dev6 (d0 : Dev nD) : Nat :=
  let c0_i32_669 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_668 : BitVec 32 := 8#32
  let v564 : BitVec 32 := Scalar.muli v2 c8_i32_668
  let v565 : BitVec 32 := Scalar.addi c0_i32_669 v564
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_670 : BitVec 32 := 4#32
  let v566 : BitVec 32 := Scalar.muli v5 c4_i32_670
  let v567 : BitVec 32 := Scalar.addi v565 v566
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_671 : BitVec 32 := 1#32
  let v568 : BitVec 32 := Scalar.muli v66 c1_i32_671
  let v569 : BitVec 32 := Scalar.addi v567 v568
  v569.toNat
def k0_dev7 (d0 : Dev nD) : Nat :=
  let c0_i32_676 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_675 : BitVec 32 := 8#32
  let v576 : BitVec 32 := Scalar.muli v2 c8_i32_675
  let v577 : BitVec 32 := Scalar.addi c0_i32_676 v576
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_677 : BitVec 32 := 4#32
  let v578 : BitVec 32 := Scalar.muli v5 c4_i32_677
  let v579 : BitVec 32 := Scalar.addi v577 v578
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_678 : BitVec 32 := 1#32
  let v580 : BitVec 32 := Scalar.muli v66 c1_i32_678
  let v581 : BitVec 32 := Scalar.addi v579 v580
  v581.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_53 : BitVec 32 := 0#32
  let v72 : BitVec 1 := Scalar.cmpi .eq v8 c0_i32_53
  let v73 : BitVec 32 := Scalar.extui v72
  let c0_i32_62 : BitVec 32 := 0#32
  let v74 : BitVec 1 := Scalar.cmpi .ne v73 c0_i32_62
  v74

def k0_dev8 (d0 : Dev nD) : Nat :=
  let c0_i32_669 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_668 : BitVec 32 := 8#32
  let v564 : BitVec 32 := Scalar.muli v2 c8_i32_668
  let v565 : BitVec 32 := Scalar.addi c0_i32_669 v564
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_670 : BitVec 32 := 4#32
  let v566 : BitVec 32 := Scalar.muli v5 c4_i32_670
  let v567 : BitVec 32 := Scalar.addi v565 v566
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_671 : BitVec 32 := 1#32
  let v568 : BitVec 32 := Scalar.muli v66 c1_i32_671
  let v569 : BitVec 32 := Scalar.addi v567 v568
  v569.toNat
def k0_dev9 (d0 : Dev nD) : Nat :=
  let c0_i32_676 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_675 : BitVec 32 := 8#32
  let v576 : BitVec 32 := Scalar.muli v2 c8_i32_675
  let v577 : BitVec 32 := Scalar.addi c0_i32_676 v576
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_677 : BitVec 32 := 4#32
  let v578 : BitVec 32 := Scalar.muli v5 c4_i32_677
  let v579 : BitVec 32 := Scalar.addi v577 v578
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_678 : BitVec 32 := 1#32
  let v580 : BitVec 32 := Scalar.muli v66 c1_i32_678
  let v581 : BitVec 32 := Scalar.addi v579 v580
  v581.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_63 : BitVec 32 := 0#32
  let v75 : BitVec 1 := Scalar.cmpi .eq v8 c0_i32_63
  let v76 : BitVec 32 := Scalar.extui v75
  let c0_i32_72 : BitVec 32 := 0#32
  let v77 : BitVec 1 := Scalar.cmpi .ne v76 c0_i32_72
  v77

def k0_dev10 (d0 : Dev nD) : Nat :=
  let c0_i32_669 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_668 : BitVec 32 := 8#32
  let v564 : BitVec 32 := Scalar.muli v2 c8_i32_668
  let v565 : BitVec 32 := Scalar.addi c0_i32_669 v564
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_670 : BitVec 32 := 4#32
  let v566 : BitVec 32 := Scalar.muli v5 c4_i32_670
  let v567 : BitVec 32 := Scalar.addi v565 v566
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_671 : BitVec 32 := 1#32
  let v568 : BitVec 32 := Scalar.muli v66 c1_i32_671
  let v569 : BitVec 32 := Scalar.addi v567 v568
  v569.toNat
def k0_dev11 (d0 : Dev nD) : Nat :=
  let c0_i32_677 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_676 : BitVec 32 := 8#32
  let v576 : BitVec 32 := Scalar.muli v2 c8_i32_676
  let v577 : BitVec 32 := Scalar.addi c0_i32_677 v576
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_678 : BitVec 32 := 4#32
  let v578 : BitVec 32 := Scalar.muli v5 c4_i32_678
  let v579 : BitVec 32 := Scalar.addi v577 v578
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_679 : BitVec 32 := 1#32
  let v580 : BitVec 32 := Scalar.muli v66 c1_i32_679
  let v581 : BitVec 32 := Scalar.addi v579 v580
  v581.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_73 : BitVec 32 := 3#32
  let v78 : BitVec 1 := Scalar.cmpi .eq v8 c3_i32_73
  let v79 : BitVec 32 := Scalar.extui v78
  let c0_i32_82 : BitVec 32 := 0#32
  let v80 : BitVec 1 := Scalar.cmpi .ne v79 c0_i32_82
  v80

def k0_dev12 (d0 : Dev nD) : Nat :=
  let c0_i32_669 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_668 : BitVec 32 := 8#32
  let v564 : BitVec 32 := Scalar.muli v2 c8_i32_668
  let v565 : BitVec 32 := Scalar.addi c0_i32_669 v564
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_670 : BitVec 32 := 4#32
  let v566 : BitVec 32 := Scalar.muli v5 c4_i32_670
  let v567 : BitVec 32 := Scalar.addi v565 v566
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_671 : BitVec 32 := 1#32
  let v568 : BitVec 32 := Scalar.muli v68 c1_i32_671
  let v569 : BitVec 32 := Scalar.addi v567 v568
  v569.toNat
def k0_dev13 (d0 : Dev nD) : Nat :=
  let c0_i32_677 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_676 : BitVec 32 := 8#32
  let v576 : BitVec 32 := Scalar.muli v2 c8_i32_676
  let v577 : BitVec 32 := Scalar.addi c0_i32_677 v576
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_678 : BitVec 32 := 4#32
  let v578 : BitVec 32 := Scalar.muli v5 c4_i32_678
  let v579 : BitVec 32 := Scalar.addi v577 v578
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_679 : BitVec 32 := 1#32
  let v580 : BitVec 32 := Scalar.muli v68 c1_i32_679
  let v581 : BitVec 32 := Scalar.addi v579 v580
  v581.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_83 : BitVec 32 := 3#32
  let v81 : BitVec 1 := Scalar.cmpi .eq v8 c3_i32_83
  let v82 : BitVec 32 := Scalar.extui v81
  let c0_i32_92 : BitVec 32 := 0#32
  let v83 : BitVec 1 := Scalar.cmpi .ne v82 c0_i32_92
  v83

def k0_dev14 (d0 : Dev nD) : Nat :=
  let c0_i32_669 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_668 : BitVec 32 := 8#32
  let v564 : BitVec 32 := Scalar.muli v2 c8_i32_668
  let v565 : BitVec 32 := Scalar.addi c0_i32_669 v564
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_670 : BitVec 32 := 4#32
  let v566 : BitVec 32 := Scalar.muli v5 c4_i32_670
  let v567 : BitVec 32 := Scalar.addi v565 v566
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_671 : BitVec 32 := 1#32
  let v568 : BitVec 32 := Scalar.muli v68 c1_i32_671
  let v569 : BitVec 32 := Scalar.addi v567 v568
  v569.toNat
def k0_dev15 (d0 : Dev nD) : Nat :=
  let c0_i32_677 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_676 : BitVec 32 := 8#32
  let v576 : BitVec 32 := Scalar.muli v2 c8_i32_676
  let v577 : BitVec 32 := Scalar.addi c0_i32_677 v576
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_678 : BitVec 32 := 4#32
  let v578 : BitVec 32 := Scalar.muli v5 c4_i32_678
  let v579 : BitVec 32 := Scalar.addi v577 v578
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_679 : BitVec 32 := 1#32
  let v580 : BitVec 32 := Scalar.muli v68 c1_i32_679
  let v581 : BitVec 32 := Scalar.addi v579 v580
  v581.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_93 : BitVec 32 := 3#32
  let v84 : BitVec 1 := Scalar.cmpi .eq v8 c3_i32_93
  let v85 : BitVec 32 := Scalar.extui v84
  let c0_i32_102 : BitVec 32 := 0#32
  let v86 : BitVec 1 := Scalar.cmpi .ne v85 c0_i32_102
  v86

def k0_dev16 (d0 : Dev nD) : Nat :=
  let c0_i32_669 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_668 : BitVec 32 := 8#32
  let v564 : BitVec 32 := Scalar.muli v2 c8_i32_668
  let v565 : BitVec 32 := Scalar.addi c0_i32_669 v564
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_670 : BitVec 32 := 4#32
  let v566 : BitVec 32 := Scalar.muli v5 c4_i32_670
  let v567 : BitVec 32 := Scalar.addi v565 v566
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_671 : BitVec 32 := 1#32
  let v568 : BitVec 32 := Scalar.muli v68 c1_i32_671
  let v569 : BitVec 32 := Scalar.addi v567 v568
  v569.toNat
def k0_dev17 (d0 : Dev nD) : Nat :=
  let c0_i32_676 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_675 : BitVec 32 := 8#32
  let v576 : BitVec 32 := Scalar.muli v2 c8_i32_675
  let v577 : BitVec 32 := Scalar.addi c0_i32_676 v576
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_677 : BitVec 32 := 4#32
  let v578 : BitVec 32 := Scalar.muli v5 c4_i32_677
  let v579 : BitVec 32 := Scalar.addi v577 v578
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_678 : BitVec 32 := 1#32
  let v580 : BitVec 32 := Scalar.muli v68 c1_i32_678
  let v581 : BitVec 32 := Scalar.addi v579 v580
  v581.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let c0_i32_112 : BitVec 32 := 0#32
  let v95 : BitVec 1 := Scalar.cmpi .sgt v8 c0_i32_112
  let v96 : BitVec 1 := Scalar.andi v87 v95
  let c3_i32_113 : BitVec 32 := 3#32
  let v97 : BitVec 1 := Scalar.cmpi .slt v8 c3_i32_113
  let v98 : BitVec 1 := Scalar.andi v96 v97
  let v99 : BitVec 32 := Scalar.extui v98
  let c0_i32_118 : BitVec 32 := 0#32
  let v100 : BitVec 1 := Scalar.cmpi .ne v99 c0_i32_118
  v100

def k0_dev18 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_676 : BitVec 32 := 1#32
  let v574 : BitVec 32 := Scalar.muli v66 c1_i32_676
  let v575 : BitVec 32 := Scalar.addi v573 v574
  v575.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let c0_i32_126 : BitVec 32 := 0#32
  let v107 : BitVec 1 := Scalar.cmpi .sgt v8 c0_i32_126
  let v108 : BitVec 1 := Scalar.andi v87 v107
  let c3_i32_127 : BitVec 32 := 3#32
  let v109 : BitVec 1 := Scalar.cmpi .slt v8 c3_i32_127
  let v110 : BitVec 1 := Scalar.andi v108 v109
  let v111 : BitVec 32 := Scalar.extui v110
  let c0_i32_132 : BitVec 32 := 0#32
  let v112 : BitVec 1 := Scalar.cmpi .ne v111 c0_i32_132
  v112

def k0_dev19 (d0 : Dev nD) : Nat :=
  let c0_i32_673 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_672 : BitVec 32 := 8#32
  let v570 : BitVec 32 := Scalar.muli v2 c8_i32_672
  let v571 : BitVec 32 := Scalar.addi c0_i32_673 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_674 : BitVec 32 := 4#32
  let v572 : BitVec 32 := Scalar.muli v5 c4_i32_674
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_675 : BitVec 32 := 1#32
  let v574 : BitVec 32 := Scalar.muli v66 c1_i32_675
  let v575 : BitVec 32 := Scalar.addi v573 v574
  v575.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let c3_i32_140 : BitVec 32 := 3#32
  let v119 : BitVec 1 := Scalar.cmpi .slt v8 c3_i32_140
  let v120 : BitVec 1 := Scalar.andi v87 v119
  let c0_i32_141 : BitVec 32 := 0#32
  let v121 : BitVec 1 := Scalar.cmpi .sgt v8 c0_i32_141
  let v122 : BitVec 1 := Scalar.andi v120 v121
  let v123 : BitVec 32 := Scalar.extui v122
  let c0_i32_146 : BitVec 32 := 0#32
  let v124 : BitVec 1 := Scalar.cmpi .ne v123 c0_i32_146
  v124

def k0_dev20 (d0 : Dev nD) : Nat :=
  let c0_i32_675 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_674 : BitVec 32 := 8#32
  let v570 : BitVec 32 := Scalar.muli v2 c8_i32_674
  let v571 : BitVec 32 := Scalar.addi c0_i32_675 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_676 : BitVec 32 := 4#32
  let v572 : BitVec 32 := Scalar.muli v5 c4_i32_676
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_677 : BitVec 32 := 1#32
  let v574 : BitVec 32 := Scalar.muli v68 c1_i32_677
  let v575 : BitVec 32 := Scalar.addi v573 v574
  v575.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let c3_i32_154 : BitVec 32 := 3#32
  let v131 : BitVec 1 := Scalar.cmpi .slt v8 c3_i32_154
  let v132 : BitVec 1 := Scalar.andi v87 v131
  let c0_i32_155 : BitVec 32 := 0#32
  let v133 : BitVec 1 := Scalar.cmpi .sgt v8 c0_i32_155
  let v134 : BitVec 1 := Scalar.andi v132 v133
  let v135 : BitVec 32 := Scalar.extui v134
  let c0_i32_160 : BitVec 32 := 0#32
  let v136 : BitVec 1 := Scalar.cmpi .ne v135 c0_i32_160
  v136

def k0_dev21 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_676 : BitVec 32 := 1#32
  let v574 : BitVec 32 := Scalar.muli v68 c1_i32_676
  let v575 : BitVec 32 := Scalar.addi v573 v574
  v575.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let true_104 : BitVec 1 := 1#1
  let v88 : BitVec 1 := Scalar.xori v87 true_104
  let c3_i32_168 : BitVec 32 := 3#32
  let v143 : BitVec 1 := Scalar.cmpi .slt v8 c3_i32_168
  let v144 : BitVec 1 := Scalar.andi v88 v143
  let c0_i32_169 : BitVec 32 := 0#32
  let v145 : BitVec 1 := Scalar.cmpi .sgt v8 c0_i32_169
  let v146 : BitVec 1 := Scalar.andi v144 v145
  let v147 : BitVec 32 := Scalar.extui v146
  let c0_i32_174 : BitVec 32 := 0#32
  let v148 : BitVec 1 := Scalar.cmpi .ne v147 c0_i32_174
  v148

def k0_dev22 (d0 : Dev nD) : Nat :=
  let c0_i32_675 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_674 : BitVec 32 := 8#32
  let v570 : BitVec 32 := Scalar.muli v2 c8_i32_674
  let v571 : BitVec 32 := Scalar.addi c0_i32_675 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_676 : BitVec 32 := 4#32
  let v572 : BitVec 32 := Scalar.muli v5 c4_i32_676
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_677 : BitVec 32 := 1#32
  let v574 : BitVec 32 := Scalar.muli v68 c1_i32_677
  let v575 : BitVec 32 := Scalar.addi v573 v574
  v575.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let true_104 : BitVec 1 := 1#1
  let v88 : BitVec 1 := Scalar.xori v87 true_104
  let c3_i32_182 : BitVec 32 := 3#32
  let v155 : BitVec 1 := Scalar.cmpi .slt v8 c3_i32_182
  let v156 : BitVec 1 := Scalar.andi v88 v155
  let c0_i32_183 : BitVec 32 := 0#32
  let v157 : BitVec 1 := Scalar.cmpi .sgt v8 c0_i32_183
  let v158 : BitVec 1 := Scalar.andi v156 v157
  let v159 : BitVec 32 := Scalar.extui v158
  let c0_i32_188 : BitVec 32 := 0#32
  let v160 : BitVec 1 := Scalar.cmpi .ne v159 c0_i32_188
  v160

def k0_dev23 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_676 : BitVec 32 := 1#32
  let v574 : BitVec 32 := Scalar.muli v68 c1_i32_676
  let v575 : BitVec 32 := Scalar.addi v573 v574
  v575.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let true_104 : BitVec 1 := 1#1
  let v88 : BitVec 1 := Scalar.xori v87 true_104
  let c0_i32_196 : BitVec 32 := 0#32
  let v167 : BitVec 1 := Scalar.cmpi .sgt v8 c0_i32_196
  let v168 : BitVec 1 := Scalar.andi v88 v167
  let c3_i32_197 : BitVec 32 := 3#32
  let v169 : BitVec 1 := Scalar.cmpi .slt v8 c3_i32_197
  let v170 : BitVec 1 := Scalar.andi v168 v169
  let v171 : BitVec 32 := Scalar.extui v170
  let c0_i32_202 : BitVec 32 := 0#32
  let v172 : BitVec 1 := Scalar.cmpi .ne v171 c0_i32_202
  v172

def k0_dev24 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_676 : BitVec 32 := 1#32
  let v574 : BitVec 32 := Scalar.muli v66 c1_i32_676
  let v575 : BitVec 32 := Scalar.addi v573 v574
  v575.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let true_104 : BitVec 1 := 1#1
  let v88 : BitVec 1 := Scalar.xori v87 true_104
  let c0_i32_210 : BitVec 32 := 0#32
  let v179 : BitVec 1 := Scalar.cmpi .sgt v8 c0_i32_210
  let v180 : BitVec 1 := Scalar.andi v88 v179
  let c3_i32_211 : BitVec 32 := 3#32
  let v181 : BitVec 1 := Scalar.cmpi .slt v8 c3_i32_211
  let v182 : BitVec 1 := Scalar.andi v180 v181
  let v183 : BitVec 32 := Scalar.extui v182
  let c0_i32_216 : BitVec 32 := 0#32
  let v184 : BitVec 1 := Scalar.cmpi .ne v183 c0_i32_216
  v184

def k0_dev25 (d0 : Dev nD) : Nat :=
  let c0_i32_673 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_672 : BitVec 32 := 8#32
  let v570 : BitVec 32 := Scalar.muli v2 c8_i32_672
  let v571 : BitVec 32 := Scalar.addi c0_i32_673 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_674 : BitVec 32 := 4#32
  let v572 : BitVec 32 := Scalar.muli v5 c4_i32_674
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_675 : BitVec 32 := 1#32
  let v574 : BitVec 32 := Scalar.muli v66 c1_i32_675
  let v575 : BitVec 32 := Scalar.addi v573 v574
  v575.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let c0_i32_224 : BitVec 32 := 0#32
  let v191 : BitVec 1 := Scalar.cmpi .sgt v8 c0_i32_224
  let v192 : BitVec 1 := Scalar.andi v87 v191
  let c2_i32_225 : BitVec 32 := 2#32
  let v193 : BitVec 1 := Scalar.cmpi .slt v8 c2_i32_225
  let v194 : BitVec 1 := Scalar.andi v192 v193
  let v195 : BitVec 32 := Scalar.extui v194
  let c0_i32_230 : BitVec 32 := 0#32
  let v196 : BitVec 1 := Scalar.cmpi .ne v195 c0_i32_230
  v196

def k0_dev26 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_676 : BitVec 32 := 1#32
  let v574 : BitVec 32 := Scalar.muli v66 c1_i32_676
  let v575 : BitVec 32 := Scalar.addi v573 v574
  v575.toNat
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let c0_i32_238 : BitVec 32 := 0#32
  let v203 : BitVec 1 := Scalar.cmpi .sgt v8 c0_i32_238
  let v204 : BitVec 1 := Scalar.andi v87 v203
  let c2_i32_239 : BitVec 32 := 2#32
  let v205 : BitVec 1 := Scalar.cmpi .slt v8 c2_i32_239
  let v206 : BitVec 1 := Scalar.andi v204 v205
  let v207 : BitVec 32 := Scalar.extui v206
  let c0_i32_244 : BitVec 32 := 0#32
  let v208 : BitVec 1 := Scalar.cmpi .ne v207 c0_i32_244
  v208

def k0_dev27 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_676 : BitVec 32 := 1#32
  let v574 : BitVec 32 := Scalar.muli v66 c1_i32_676
  let v575 : BitVec 32 := Scalar.addi v573 v574
  v575.toNat
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let c3_i32_252 : BitVec 32 := 3#32
  let v215 : BitVec 1 := Scalar.cmpi .slt v8 c3_i32_252
  let v216 : BitVec 1 := Scalar.andi v87 v215
  let c1_i32_253 : BitVec 32 := 1#32
  let v217 : BitVec 1 := Scalar.cmpi .sgt v8 c1_i32_253
  let v218 : BitVec 1 := Scalar.andi v216 v217
  let v219 : BitVec 32 := Scalar.extui v218
  let c0_i32_258 : BitVec 32 := 0#32
  let v220 : BitVec 1 := Scalar.cmpi .ne v219 c0_i32_258
  v220

def k0_dev28 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_676 : BitVec 32 := 1#32
  let v574 : BitVec 32 := Scalar.muli v68 c1_i32_676
  let v575 : BitVec 32 := Scalar.addi v573 v574
  v575.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let c3_i32_266 : BitVec 32 := 3#32
  let v227 : BitVec 1 := Scalar.cmpi .slt v8 c3_i32_266
  let v228 : BitVec 1 := Scalar.andi v87 v227
  let c1_i32_267 : BitVec 32 := 1#32
  let v229 : BitVec 1 := Scalar.cmpi .sgt v8 c1_i32_267
  let v230 : BitVec 1 := Scalar.andi v228 v229
  let v231 : BitVec 32 := Scalar.extui v230
  let c0_i32_272 : BitVec 32 := 0#32
  let v232 : BitVec 1 := Scalar.cmpi .ne v231 c0_i32_272
  v232

def k0_dev29 (d0 : Dev nD) : Nat :=
  let c0_i32_673 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_672 : BitVec 32 := 8#32
  let v570 : BitVec 32 := Scalar.muli v2 c8_i32_672
  let v571 : BitVec 32 := Scalar.addi c0_i32_673 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_674 : BitVec 32 := 4#32
  let v572 : BitVec 32 := Scalar.muli v5 c4_i32_674
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_675 : BitVec 32 := 1#32
  let v574 : BitVec 32 := Scalar.muli v68 c1_i32_675
  let v575 : BitVec 32 := Scalar.addi v573 v574
  v575.toNat
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let true_104 : BitVec 1 := 1#1
  let v88 : BitVec 1 := Scalar.xori v87 true_104
  let c3_i32_280 : BitVec 32 := 3#32
  let v239 : BitVec 1 := Scalar.cmpi .slt v8 c3_i32_280
  let v240 : BitVec 1 := Scalar.andi v88 v239
  let c1_i32_281 : BitVec 32 := 1#32
  let v241 : BitVec 1 := Scalar.cmpi .sgt v8 c1_i32_281
  let v242 : BitVec 1 := Scalar.andi v240 v241
  let v243 : BitVec 32 := Scalar.extui v242
  let c0_i32_286 : BitVec 32 := 0#32
  let v244 : BitVec 1 := Scalar.cmpi .ne v243 c0_i32_286
  v244

def k0_dev30 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_676 : BitVec 32 := 1#32
  let v574 : BitVec 32 := Scalar.muli v68 c1_i32_676
  let v575 : BitVec 32 := Scalar.addi v573 v574
  v575.toNat
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let true_104 : BitVec 1 := 1#1
  let v88 : BitVec 1 := Scalar.xori v87 true_104
  let c3_i32_294 : BitVec 32 := 3#32
  let v251 : BitVec 1 := Scalar.cmpi .slt v8 c3_i32_294
  let v252 : BitVec 1 := Scalar.andi v88 v251
  let c1_i32_295 : BitVec 32 := 1#32
  let v253 : BitVec 1 := Scalar.cmpi .sgt v8 c1_i32_295
  let v254 : BitVec 1 := Scalar.andi v252 v253
  let v255 : BitVec 32 := Scalar.extui v254
  let c0_i32_300 : BitVec 32 := 0#32
  let v256 : BitVec 1 := Scalar.cmpi .ne v255 c0_i32_300
  v256

def k0_dev31 (d0 : Dev nD) : Nat :=
  let c0_i32_673 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_672 : BitVec 32 := 8#32
  let v570 : BitVec 32 := Scalar.muli v2 c8_i32_672
  let v571 : BitVec 32 := Scalar.addi c0_i32_673 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_674 : BitVec 32 := 4#32
  let v572 : BitVec 32 := Scalar.muli v5 c4_i32_674
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_675 : BitVec 32 := 1#32
  let v574 : BitVec 32 := Scalar.muli v68 c1_i32_675
  let v575 : BitVec 32 := Scalar.addi v573 v574
  v575.toNat
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let true_104 : BitVec 1 := 1#1
  let v88 : BitVec 1 := Scalar.xori v87 true_104
  let c0_i32_308 : BitVec 32 := 0#32
  let v263 : BitVec 1 := Scalar.cmpi .sgt v8 c0_i32_308
  let v264 : BitVec 1 := Scalar.andi v88 v263
  let c2_i32_309 : BitVec 32 := 2#32
  let v265 : BitVec 1 := Scalar.cmpi .slt v8 c2_i32_309
  let v266 : BitVec 1 := Scalar.andi v264 v265
  let v267 : BitVec 32 := Scalar.extui v266
  let c0_i32_314 : BitVec 32 := 0#32
  let v268 : BitVec 1 := Scalar.cmpi .ne v267 c0_i32_314
  v268

def k0_dev32 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_676 : BitVec 32 := 1#32
  let v574 : BitVec 32 := Scalar.muli v66 c1_i32_676
  let v575 : BitVec 32 := Scalar.addi v573 v574
  v575.toNat
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let true_104 : BitVec 1 := 1#1
  let v88 : BitVec 1 := Scalar.xori v87 true_104
  let c0_i32_322 : BitVec 32 := 0#32
  let v275 : BitVec 1 := Scalar.cmpi .sgt v8 c0_i32_322
  let v276 : BitVec 1 := Scalar.andi v88 v275
  let c2_i32_323 : BitVec 32 := 2#32
  let v277 : BitVec 1 := Scalar.cmpi .slt v8 c2_i32_323
  let v278 : BitVec 1 := Scalar.andi v276 v277
  let v279 : BitVec 32 := Scalar.extui v278
  let c0_i32_328 : BitVec 32 := 0#32
  let v280 : BitVec 1 := Scalar.cmpi .ne v279 c0_i32_328
  v280

def k0_dev33 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_676 : BitVec 32 := 1#32
  let v574 : BitVec 32 := Scalar.muli v66 c1_i32_676
  let v575 : BitVec 32 := Scalar.addi v573 v574
  v575.toNat
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let c0_i32_336 : BitVec 32 := 0#32
  let v287 : BitVec 1 := Scalar.cmpi .sgt v8 c0_i32_336
  let v288 : BitVec 1 := Scalar.andi v87 v287
  let c1_i32_337 : BitVec 32 := 1#32
  let v289 : BitVec 1 := Scalar.cmpi .slt v8 c1_i32_337
  let v290 : BitVec 1 := Scalar.andi v288 v289
  let v291 : BitVec 32 := Scalar.extui v290
  let c0_i32_342 : BitVec 32 := 0#32
  let v292 : BitVec 1 := Scalar.cmpi .ne v291 c0_i32_342
  v292

def k0_dev34 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_676 : BitVec 32 := 1#32
  let v574 : BitVec 32 := Scalar.muli v66 c1_i32_676
  let v575 : BitVec 32 := Scalar.addi v573 v574
  v575.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let c0_i32_350 : BitVec 32 := 0#32
  let v299 : BitVec 1 := Scalar.cmpi .sgt v8 c0_i32_350
  let v300 : BitVec 1 := Scalar.andi v87 v299
  let c1_i32_351 : BitVec 32 := 1#32
  let v301 : BitVec 1 := Scalar.cmpi .slt v8 c1_i32_351
  let v302 : BitVec 1 := Scalar.andi v300 v301
  let v303 : BitVec 32 := Scalar.extui v302
  let c0_i32_356 : BitVec 32 := 0#32
  let v304 : BitVec 1 := Scalar.cmpi .ne v303 c0_i32_356
  v304

def k0_dev35 (d0 : Dev nD) : Nat :=
  let c0_i32_673 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_672 : BitVec 32 := 8#32
  let v570 : BitVec 32 := Scalar.muli v2 c8_i32_672
  let v571 : BitVec 32 := Scalar.addi c0_i32_673 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_674 : BitVec 32 := 4#32
  let v572 : BitVec 32 := Scalar.muli v5 c4_i32_674
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_675 : BitVec 32 := 1#32
  let v574 : BitVec 32 := Scalar.muli v66 c1_i32_675
  let v575 : BitVec 32 := Scalar.addi v573 v574
  v575.toNat
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let c3_i32_364 : BitVec 32 := 3#32
  let v311 : BitVec 1 := Scalar.cmpi .slt v8 c3_i32_364
  let v312 : BitVec 1 := Scalar.andi v87 v311
  let c2_i32_365 : BitVec 32 := 2#32
  let v313 : BitVec 1 := Scalar.cmpi .sgt v8 c2_i32_365
  let v314 : BitVec 1 := Scalar.andi v312 v313
  let v315 : BitVec 32 := Scalar.extui v314
  let c0_i32_370 : BitVec 32 := 0#32
  let v316 : BitVec 1 := Scalar.cmpi .ne v315 c0_i32_370
  v316

def k0_dev36 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_676 : BitVec 32 := 1#32
  let v574 : BitVec 32 := Scalar.muli v68 c1_i32_676
  let v575 : BitVec 32 := Scalar.addi v573 v574
  v575.toNat
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let c3_i32_378 : BitVec 32 := 3#32
  let v323 : BitVec 1 := Scalar.cmpi .slt v8 c3_i32_378
  let v324 : BitVec 1 := Scalar.andi v87 v323
  let c2_i32_379 : BitVec 32 := 2#32
  let v325 : BitVec 1 := Scalar.cmpi .sgt v8 c2_i32_379
  let v326 : BitVec 1 := Scalar.andi v324 v325
  let v327 : BitVec 32 := Scalar.extui v326
  let c0_i32_384 : BitVec 32 := 0#32
  let v328 : BitVec 1 := Scalar.cmpi .ne v327 c0_i32_384
  v328

def k0_dev37 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_676 : BitVec 32 := 1#32
  let v574 : BitVec 32 := Scalar.muli v68 c1_i32_676
  let v575 : BitVec 32 := Scalar.addi v573 v574
  v575.toNat
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let true_104 : BitVec 1 := 1#1
  let v88 : BitVec 1 := Scalar.xori v87 true_104
  let c3_i32_392 : BitVec 32 := 3#32
  let v335 : BitVec 1 := Scalar.cmpi .slt v8 c3_i32_392
  let v336 : BitVec 1 := Scalar.andi v88 v335
  let c2_i32_393 : BitVec 32 := 2#32
  let v337 : BitVec 1 := Scalar.cmpi .sgt v8 c2_i32_393
  let v338 : BitVec 1 := Scalar.andi v336 v337
  let v339 : BitVec 32 := Scalar.extui v338
  let c0_i32_398 : BitVec 32 := 0#32
  let v340 : BitVec 1 := Scalar.cmpi .ne v339 c0_i32_398
  v340

def k0_dev38 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_676 : BitVec 32 := 1#32
  let v574 : BitVec 32 := Scalar.muli v68 c1_i32_676
  let v575 : BitVec 32 := Scalar.addi v573 v574
  v575.toNat
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let true_104 : BitVec 1 := 1#1
  let v88 : BitVec 1 := Scalar.xori v87 true_104
  let c3_i32_406 : BitVec 32 := 3#32
  let v347 : BitVec 1 := Scalar.cmpi .slt v8 c3_i32_406
  let v348 : BitVec 1 := Scalar.andi v88 v347
  let c2_i32_407 : BitVec 32 := 2#32
  let v349 : BitVec 1 := Scalar.cmpi .sgt v8 c2_i32_407
  let v350 : BitVec 1 := Scalar.andi v348 v349
  let v351 : BitVec 32 := Scalar.extui v350
  let c0_i32_412 : BitVec 32 := 0#32
  let v352 : BitVec 1 := Scalar.cmpi .ne v351 c0_i32_412
  v352

def k0_dev39 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v67 : BitVec 32 := Scalar.subi v8 c1_i32_41
  let c0_i32_42 : BitVec 32 := 0#32
  let v68 : BitVec 32 := Scalar.maxsi v67 c0_i32_42
  let c1_i32_676 : BitVec 32 := 1#32
  let v574 : BitVec 32 := Scalar.muli v68 c1_i32_676
  let v575 : BitVec 32 := Scalar.addi v573 v574
  v575.toNat
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let true_104 : BitVec 1 := 1#1
  let v88 : BitVec 1 := Scalar.xori v87 true_104
  let c0_i32_420 : BitVec 32 := 0#32
  let v359 : BitVec 1 := Scalar.cmpi .sgt v8 c0_i32_420
  let v360 : BitVec 1 := Scalar.andi v88 v359
  let c1_i32_421 : BitVec 32 := 1#32
  let v361 : BitVec 1 := Scalar.cmpi .slt v8 c1_i32_421
  let v362 : BitVec 1 := Scalar.andi v360 v361
  let v363 : BitVec 32 := Scalar.extui v362
  let c0_i32_426 : BitVec 32 := 0#32
  let v364 : BitVec 1 := Scalar.cmpi .ne v363 c0_i32_426
  v364

def k0_dev40 (d0 : Dev nD) : Nat :=
  let c0_i32_674 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_673 : BitVec 32 := 8#32
  let v570 : BitVec 32 := Scalar.muli v2 c8_i32_673
  let v571 : BitVec 32 := Scalar.addi c0_i32_674 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v572 : BitVec 32 := Scalar.muli v5 c4_i32_675
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_676 : BitVec 32 := 1#32
  let v574 : BitVec 32 := Scalar.muli v66 c1_i32_676
  let v575 : BitVec 32 := Scalar.addi v573 v574
  v575.toNat
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v87 : BitVec 1 := Scalar.cmpi .sle v8 c1_i32_103
  let true_104 : BitVec 1 := 1#1
  let v88 : BitVec 1 := Scalar.xori v87 true_104
  let c0_i32_434 : BitVec 32 := 0#32
  let v371 : BitVec 1 := Scalar.cmpi .sgt v8 c0_i32_434
  let v372 : BitVec 1 := Scalar.andi v88 v371
  let c1_i32_435 : BitVec 32 := 1#32
  let v373 : BitVec 1 := Scalar.cmpi .slt v8 c1_i32_435
  let v374 : BitVec 1 := Scalar.andi v372 v373
  let v375 : BitVec 32 := Scalar.extui v374
  let c0_i32_440 : BitVec 32 := 0#32
  let v376 : BitVec 1 := Scalar.cmpi .ne v375 c0_i32_440
  v376

def k0_dev41 (d0 : Dev nD) : Nat :=
  let c0_i32_673 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_672 : BitVec 32 := 8#32
  let v570 : BitVec 32 := Scalar.muli v2 c8_i32_672
  let v571 : BitVec 32 := Scalar.addi c0_i32_673 v570
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_674 : BitVec 32 := 4#32
  let v572 : BitVec 32 := Scalar.muli v5 c4_i32_674
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.addi v8 c1_i32_39
  let c3_i32_40 : BitVec 32 := 3#32
  let v66 : BitVec 32 := Scalar.minsi v65 c3_i32_40
  let c1_i32_675 : BitVec 32 := 1#32
  let v574 : BitVec 32 := Scalar.muli v66 c1_i32_675
  let v575 : BitVec 32 := Scalar.addi v573 v574
  v575.toNat
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v377 : BitVec 32 := Scalar.muli v8 c128_i32
  let v378 : Index := Scalar.indexCast v377
  let c0_441 : Index := 0#32
  ![v378.toNat, 0]
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_444 : BitVec 32 := 0#32
  let v383 : BitVec 1 := Scalar.cmpi .sgt v8 c0_i32_444
  let v384 : BitVec 32 := Scalar.extui v383
  let c0_i32_445 : BitVec 32 := 0#32
  let v385 : BitVec 1 := Scalar.cmpi .ne v384 c0_i32_445
  v385

def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_670 : BitVec 32 := 128#32
  let v565 : BitVec 32 := Scalar.muli v8 c128_i32_670
  let v566 : Index := Scalar.indexCast v565
  let c0_671 : Index := 0#32
  ![v566.toNat, 0]
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_446 : BitVec 32 := 3#32
  let v386 : BitVec 1 := Scalar.cmpi .slt v8 c3_i32_446
  let v387 : BitVec 32 := Scalar.extui v386
  let c0_i32_447 : BitVec 32 := 0#32
  let v388 : BitVec 1 := Scalar.cmpi .ne v387 c0_i32_447
  v388

def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_670 : BitVec 32 := 128#32
  let v565 : BitVec 32 := Scalar.muli v8 c128_i32_670
  let v566 : Index := Scalar.indexCast v565
  let c0_671 : Index := 0#32
  ![v566.toNat, 0]
def k0_off5 (d0 : Dev nD) : Fin 2 → Nat :=
  let c0_i32_449 : BitVec 32 := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32_448 : BitVec 32 := 512#32
  let v389 : BitVec 32 := Scalar.muli v10 c512_i32_448
  ![0, v389.toNat]
def k0_dev42 (d0 : Dev nD) : Nat :=
  let c0_i32_460 : BitVec 32 := 0#32
  let c1_i32_450 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v391 : BitVec 32 := Scalar.subi c1_i32_450 v2
  let c8_i32_459 : BitVec 32 := 8#32
  let v398 : BitVec 32 := Scalar.muli v391 c8_i32_459
  let v399 : BitVec 32 := Scalar.addi c0_i32_460 v398
  let c1_i32_451 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v392 : BitVec 32 := Scalar.subi c1_i32_451 v5
  let c4_i32_461 : BitVec 32 := 4#32
  let v400 : BitVec 32 := Scalar.muli v392 c4_i32_461
  let v401 : BitVec 32 := Scalar.addi v399 v400
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_462 : BitVec 32 := 1#32
  let v402 : BitVec 32 := Scalar.muli v8 c1_i32_462
  let v403 : BitVec 32 := Scalar.addi v401 v402
  v403.toNat
def k0_dev43 (d0 : Dev nD) : Nat :=
  let c0_i32_467 : BitVec 32 := 0#32
  let c1_i32_453 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v394 : BitVec 32 := Scalar.subi c1_i32_453 v2
  let c8_i32_466 : BitVec 32 := 8#32
  let v409 : BitVec 32 := Scalar.muli v394 c8_i32_466
  let v410 : BitVec 32 := Scalar.addi c0_i32_467 v409
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_468 : BitVec 32 := 4#32
  let v411 : BitVec 32 := Scalar.muli v5 c4_i32_468
  let v412 : BitVec 32 := Scalar.addi v410 v411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_469 : BitVec 32 := 1#32
  let v413 : BitVec 32 := Scalar.muli v8 c1_i32_469
  let v414 : BitVec 32 := Scalar.addi v412 v413
  v414.toNat
def k0_dev44 (d0 : Dev nD) : Nat :=
  let c0_i32_474 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_473 : BitVec 32 := 8#32
  let v420 : BitVec 32 := Scalar.muli v2 c8_i32_473
  let v421 : BitVec 32 := Scalar.addi c0_i32_474 v420
  let c1_i32_455 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v396 : BitVec 32 := Scalar.subi c1_i32_455 v5
  let c4_i32_475 : BitVec 32 := 4#32
  let v422 : BitVec 32 := Scalar.muli v396 c4_i32_475
  let v423 : BitVec 32 := Scalar.addi v421 v422
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_476 : BitVec 32 := 1#32
  let v424 : BitVec 32 := Scalar.muli v8 c1_i32_476
  let v425 : BitVec 32 := Scalar.addi v423 v424
  v425.toNat
-- ==== ReferenceIdeal.lean ====
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S512x2048, .f32⟩
  | .hbm, ⟨3, _⟩ => ⟨S512x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Mesh.lean ====
/-
  The mesh, the buffers' blocks and the contents the kernel computes.

  Sixteen devices stand on a 2 × 2 × 4 mesh. The four devices of one `z` column of the mesh form a chain, along which
  two running sums travel (the plus stream upward, the minus stream downward) in eight half-row blocks each; the four
  devices of equal `z` exchange finished column blocks. This module names the devices, the semaphores, the blocks and,
  for every device, the contents that the run leaves in each buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Ring
public import Idealize.ShloMosaic.Lib.ViewIndex
public import Idealize.ShloMosaic.Lib.Pipeline.Value
public import Idealize.ShloMosaic.Lib.Tactic

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one round per semaphore cell, duties numbered below five. -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

/-- The position in the chain. -/
def zz (c : Dev nD) : ℕ := c.val % 4
/-- The column block of the result this device finishes: its position among the devices of equal `z`. -/
def qq (c : Dev nD) : ℕ := c.val / 4
set_option backward.proofsInPublic true in
/-- The next device of the chain; the last device's next is itself. -/
def up (c : Dev nD) : Dev nD := ⟨4 * (c.val / 4) + min (c.val % 4 + 1) 3, by have h : c.val < 16 := c.isLt; show _ < 16; omega⟩
set_option backward.proofsInPublic true in
/-- The previous device of the chain; the first device's previous is itself. -/
def dn (c : Dev nD) : Dev nD := ⟨4 * (c.val / 4) + (c.val % 4 - 1), by have h : c.val < 16 := c.isLt; show _ < 16; omega⟩
set_option backward.proofsInPublic true in
/-- The device of the same `z` finishing column block `j`. -/
def mate (c : Dev nD) (j : Fin 4) : Dev nD := ⟨4 * j.val + c.val % 4, by have h := j.isLt; show _ < 16; omega⟩
set_option backward.proofsInPublic true in
/-- The three other devices of equal `z`: the diagonal one (0), the `x` neighbour (1), the `y` neighbour (2). -/
def peer (c : Dev nD) (i : Fin 3) : Dev nD :=
  mate c ⟨match i with | 0 => 3 - c.val / 4 | 1 => (c.val / 4 + 2) % 4 | 2 => c.val / 4 + 1 - 2 * (c.val / 4 % 2),
    by have h : c.val < 16 := c.isLt; fin_cases i <;> dsimp only <;> omega⟩
set_option backward.proofsInPublic true in
/-- This device's column block. -/
def qf (c : Dev nD) : Fin 4 := ⟨c.val / 4, by have h : c.val < 16 := c.isLt; omega⟩
set_option backward.proofsInPublic true in
/-- This device's row block. -/
def zf (c : Dev nD) : Fin 4 := ⟨c.val % 4, Nat.mod_lt _ (by decide)⟩

theorem peer_peer (c : Dev nD) (i : Fin 3) : peer (peer c i) i = c := by revert c i; decide
theorem up_dn (c : Dev nD) (h : 0 < zz c) : up (dn c) = c := by revert c; decide
theorem dn_up (c : Dev nD) (h : zz c < 3) : dn (up c) = c := by revert c; decide
theorem zz_dn (c : Dev nD) (h : 0 < zz c) : zz (dn c) + 1 = zz c := by revert c; decide
theorem zz_up (c : Dev nD) (h : zz c < 3) : zz (up c) = zz c + 1 := by revert c; decide

/-! ## Semaphores -/

/-- The transfer semaphores: send and receive sides of the plus and of the minus stream per row block and half, of the
    three exchanges, the two input copies and the copy of the result. -/
inductive Dk where
  | ps (r : Fin 4) (h : Fin 2)
  | pr (r : Fin 4) (h : Fin 2)
  | ms (r : Fin 4) (h : Fin 2)
  | mr (r : Fin 4) (h : Fin 2)
  | gs (i : Fin 3)
  | gr (i : Fin 3)
  | inn (i : Fin 2)
  | out
deriving DecidableEq

set_option backward.proofsInPublic true in
def Dk.ix : Dk → Fin 41
  | .ps r h => ⟨2 * r.val + h.val, by omega⟩
  | .pr r h => ⟨8 + 2 * r.val + h.val, by omega⟩
  | .ms r h => ⟨16 + 2 * r.val + h.val, by omega⟩
  | .mr r h => ⟨24 + 2 * r.val + h.val, by omega⟩
  | .gs i => ⟨32 + i.val, by omega⟩
  | .gr i => ⟨35 + i.val, by omega⟩
  | .inn i => ⟨38 + i.val, by omega⟩
  | .out => ⟨40, by omega⟩

set_option backward.proofsInPublic true in
def Dk.of (n : Fin 41) : Dk :=
  if n.val < 8 then .ps ⟨n.val / 2 % 4, Nat.mod_lt _ (by decide)⟩ ⟨n.val % 2, Nat.mod_lt _ (by decide)⟩
  else if n.val < 16 then .pr ⟨n.val / 2 % 4, Nat.mod_lt _ (by decide)⟩ ⟨n.val % 2, Nat.mod_lt _ (by decide)⟩
  else if n.val < 24 then .ms ⟨n.val / 2 % 4, Nat.mod_lt _ (by decide)⟩ ⟨n.val % 2, Nat.mod_lt _ (by decide)⟩
  else if n.val < 32 then .mr ⟨n.val / 2 % 4, Nat.mod_lt _ (by decide)⟩ ⟨n.val % 2, Nat.mod_lt _ (by decide)⟩
  else if n.val < 35 then .gs ⟨(n.val - 32) % 3, Nat.mod_lt _ (by decide)⟩
  else if n.val < 38 then .gr ⟨(n.val - 35) % 3, Nat.mod_lt _ (by decide)⟩
  else if n.val < 40 then .inn ⟨n.val % 2, Nat.mod_lt _ (by decide)⟩
  else .out

theorem Dk.ix_of (n : Fin 41) : (Dk.of n).ix = n := by revert n; decide
theorem Dk.of_ix (k : Dk) : Dk.of k.ix = k := by
  cases k with
  | ps r h => revert r h; decide
  | pr r h => revert r h; decide
  | ms r h => revert r h; decide
  | mr r h => revert r h; decide
  | gs i => revert i; decide
  | gr i => revert i; decide
  | inn i => revert i; decide
  | out => decide

instance : Fintype Dk := Fintype.ofEquiv (Fin 41) ⟨Dk.of, Dk.ix, Dk.ix_of, Dk.of_ix⟩

/-- The runtime's barrier semaphore. -/
abbrev barS : Sem sig := (SemArray.scalar (sig.barrier 0 rfl) : Sems sig S_).sem

/-- The semaphore of a transfer. -/
abbrev osem (k : Dk) : SemLoc sig := .dma (k.ix : Fin 41)
/-- All the semaphores of the protocol: `none` is the barrier. -/
abbrev csem : Option Dk → SemLoc sig
  | none => .reg barS
  | some k => osem k

/-- Which semaphore of the protocol a semaphore of the signature is. -/
def kindOf : SemLoc sig → Option Dk
  | .reg _ => none
  | .dma s => some (Dk.of s)

theorem kindOf_csem (k : Option Dk) : kindOf (csem k) = k := by
  cases k with
  | none => rfl
  | some k => show some (Dk.of k.ix) = some k; rw [Dk.of_ix]

abbrev cell (c : Dev nD) (k : Option Dk) : GSem nD τ sig := ((c : Thread nD τ), csem k)

theorem cell_inj {c c' : Dev nD} {k k' : Option Dk} (h : cell c k = cell c' k') : c = c' ∧ k = k' := by
  constructor
  · have := congrArg (fun g : GSem nD τ sig => g.1.1) h; exact this
  · have := congrArg (fun g : GSem nD τ sig => kindOf g.2) h
    simpa only [kindOf_csem] using this

/-! ## Buffers and their blocks -/

abbrev xA : Memref sig .tc .hbm S512x512 .f32 := Memref.whole main_arg0
abbrev yA : Memref sig .tc .hbm S512x2048 .f32 := Memref.whole main_arg1
abbrev oA : Memref sig .tc .hbm S128x2048 .f32 := Memref.whole main_v1
abbrev aM : Memref sig .tc .vmem S512x512 .f32 := Memref.whole cc0_scratch0
abbrev pM : Memref sig .tc .vmem S512x512 .f32 := Memref.whole cc0_scratch1
abbrev mM : Memref sig .tc .vmem S512x512 .f32 := Memref.whole cc0_scratch2
abbrev qM : Memref sig .tc .vmem S128x512 .f32 := Memref.whole cc0_scratch3
abbrev xM : Memref sig .tc .vmem S512x512 .f32 := Memref.whole cc0_scratch4
abbrev dM : Memref sig .tc .vmem S512x512 .f32 := Memref.whole cc0_scratch5

theorem bo_inb (r : Fin 4) (h : Fin 2) : ∀ a, (![128 * r.val, 256 * h.val] : Fin 2 → ℕ) a + S128x256.size a ≤ S512x512.size a := by
  revert r h; decide
theorem ro_inb (r : Fin 4) : ∀ a, (![128 * r.val, 0] : Fin 2 → ℕ) a + S128x512.size a ≤ S512x512.size a := by revert r; decide
theorem co_inb (j : Fin 4) : ∀ a, (![0, 512 * j.val] : Fin 2 → ℕ) a + S128x512.size a ≤ S128x2048.size a := by revert j; decide
theorem yo_inb (j : Fin 4) : ∀ a, (![0, 512 * j.val] : Fin 2 → ℕ) a + S512x512.size a ≤ S512x2048.size a := by revert j; decide

/-- Half `h` of row block `r` of a square buffer. -/
abbrev blk (r : Fin 4) (h : Fin 2) : Rect S512x512 := Rect.unit (s := S512x512) ![128 * r.val, 256 * h.val] S128x256.size (bo_inb r h)
/-- Row block `r` of a square buffer. -/
abbrev row (r : Fin 4) : Rect S512x512 := Rect.unit (s := S512x512) ![128 * r.val, 0] S128x512.size (ro_inb r)
/-- Column block `j` of the result. -/
abbrev col (j : Fin 4) : Rect S128x2048 := Rect.unit (s := S128x2048) ![0, 512 * j.val] S128x512.size (co_inb j)
/-- Column block `j` of the second argument. -/
abbrev ycol (j : Fin 4) : Rect S512x2048 := Rect.unit (s := S512x2048) ![0, 512 * j.val] S512x512.size (yo_inb j)

abbrev aB (r : Fin 4) (h : Fin 2) : Memref sig .tc .vmem S128x256 .f32 := aM.slice (blk r h) (fun _ => rfl)
abbrev pB (r : Fin 4) (h : Fin 2) : Memref sig .tc .vmem S128x256 .f32 := pM.slice (blk r h) (fun _ => rfl)
abbrev mB (r : Fin 4) (h : Fin 2) : Memref sig .tc .vmem S128x256 .f32 := mM.slice (blk r h) (fun _ => rfl)
abbrev oB (j : Fin 4) : Memref sig .tc .hbm S128x512 .f32 := oA.slice (col j) (fun _ => rfl)
abbrev yB (j : Fin 4) : Memref sig .tc .hbm S512x512 .f32 := yA.slice (ycol j) (fun _ => rfl)

/-- The part of a device's buffer a memref names, at share `q`, holding `f`. -/
abbrev mpt {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f

/-! ## Contents -/

section Contents

variable (m : (ℓ : Loc nD τ sig) → Buf (Elt F) ℓ)

/-- This device's block of the first argument. -/
def X (c : Dev nD) : FVec F S512x512 .f32 := m ((c : Thread nD τ).loc main_arg0)
/-- Column block `qq c` of this device's block of the second argument. -/
def DY (c : Dev nD) : FVec F S512x512 .f32 := (yB (qf c)).view.read (Elt F) (m ((c : Thread nD τ).loc main_arg1))
/-- This device's own product: all four row blocks, its own column block. -/
def ACC (c : Dev nD) : FVec F S512x512 .f32 := k0_pay1 (X m c) (DY m c)

/-- The plus stream after `n` hops: the sums of the products of this device and the `n` before it. -/
def PPn : ℕ → Dev nD → FVec F S512x512 .f32
  | 0, c => ACC m c
  | n + 1, c => fun i => addf (PPn n (dn c)) (ACC m c) i
/-- The minus stream after `n` hops: the sums of the products of this device and the `n` after it. -/
def MMn : ℕ → Dev nD → FVec F S512x512 .f32
  | 0, c => ACC m c
  | n + 1, c => fun i => addf (MMn n (up c)) (ACC m c) i

/-- What the plus stream holds when this device sends it on. -/
def PP (c : Dev nD) : FVec F S512x512 .f32 := PPn m (zz c) c
/-- What the minus stream holds when this device sends it on. -/
def MM (c : Dev nD) : FVec F S512x512 .f32 := MMn m (3 - zz c) c

theorem PP_zero (c : Dev nD) (h : zz c = 0) : PP m c = ACC m c := by unfold PP; rw [h, PPn]
theorem MM_three (c : Dev nD) (h : zz c = 3) : MM m c = ACC m c := by unfold MM; rw [h, Nat.sub_self, MMn]
theorem PP_succ (c : Dev nD) (h : 0 < zz c) : PP m c = addf (PP m (dn c)) (ACC m c) := by
  unfold PP; rw [← zz_dn c h, PPn]
theorem MM_succ (c : Dev nD) (h : zz c < 3) : MM m c = addf (MM m (up c)) (ACC m c) := by
  unfold MM; rw [show 3 - zz c = (3 - zz (up c)) + 1 by rw [zz_up c h]; omega, MMn]

/-- Row block `r` of a square array. -/
def rowOf (r : Fin 4) (f : FVec F S512x512 .f32) : FVec F S128x512 .f32 := fun j => f ((row r).emb j)

/-- The finished block of this device: its own row block of its own product, the plus stream's and the minus stream's. -/
def Q (c : Dev nD) : FVec F S128x512 .f32 :=
  let a := rowOf (zf c) (ACC m c)
  let b := if 0 < zz c then addf a (rowOf (zf c) (PP m (dn c))) else a
  if zz c < 3 then addf b (rowOf (zf c) (MM m (up c))) else b

theorem colq_lt (i : S128x2048.Idx) : (i 1).val / 512 < 4 := by
  have h : (i 1).val < 2048 := (i 1).isLt
  omega

/-- The place of an index of the result inside its column block. -/
def colj (i : S128x2048.Idx) : S128x512.Idx := fun a =>
  ⟨(![(i 0).val, (i 1).val % 512] : Fin 2 → ℕ) a, by
    have h0 : (i 0).val < 128 := (i 0).isLt
    have h1 : (i 1).val % 512 < 512 := Nat.mod_lt _ (by decide)
    fin_cases a
    · exact h0
    · exact h1⟩

/-- The result of this device: column block `j` is the finished block of the device of the same `z` in charge of `j`. -/
def OUT (c : Dev nD) : FVec F S128x2048 .f32 := fun i => Q m (mate c ⟨(i 1).val / 512, colq_lt i⟩) (colj i)

end Contents

end Cert.KProof
-- ==== Proof.Sched.lean ====
/-
  The protocol: who pays which semaphore with what, and the list of protocol steps of every device.

  Every semaphore runs one round. A transfer's semaphore has one duty, the transfer's credit, and its payload is the
  memory the transfer hands over; the barrier semaphore has a duty of one unit for each device that signals it, and the
  signal hands over the memory the signalled device is going to write remotely.
-/
module

public import proofs.«01_k».proof.Proof.Mesh

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Amounts and duties -/

/-- The credit of a half-row block, of a finished block, of an input block. -/
def Nb : ℕ := (pB 0 0).view.dmaCredit
def Nq : ℕ := (qM : Memref sig .tc .vmem S128x512 .f32).view.dmaCredit
def Nw : ℕ := (xM : Memref sig .tc .vmem S512x512 .f32).view.dmaCredit

def amt : Option Dk → ℕ
  | none => 1
  | some (.ps _ _) => Nb
  | some (.pr _ _) => Nb
  | some (.ms _ _) => Nb
  | some (.mr _ _) => Nb
  | some (.gs _) => Nq
  | some (.gr _) => Nq
  | some (.inn _) => Nw
  | some .out => Nq

theorem Nb_pos : 0 < Nb := View.dmaCredit_pos (pB 0 0).view (by decide)
theorem Nq_pos : 0 < Nq := View.dmaCredit_pos (qM : Memref sig .tc .vmem S128x512 .f32).view (by decide)
theorem Nw_pos : 0 < Nw := View.dmaCredit_pos (xM : Memref sig .tc .vmem S512x512 .f32).view (by decide)

theorem amt_pos : ∀ k : Option Dk, 0 < amt k
  | none => Nat.one_pos
  | some (.ps _ _) => Nb_pos
  | some (.pr _ _) => Nb_pos
  | some (.ms _ _) => Nb_pos
  | some (.mr _ _) => Nb_pos
  | some (.gs _) => Nq_pos
  | some (.gr _) => Nq_pos
  | some (.inn _) => Nw_pos
  | some .out => Nq_pos

/-- Whether a device uses a transfer semaphore at all. -/
def act (c : Dev nD) : Dk → Bool
  | .ps r _ => zz c < r.val
  | .pr r _ => 0 < zz c ∧ zz c ≤ r.val
  | .ms r _ => r.val < zz c
  | .mr r _ => zz c < 3 ∧ r.val ≤ zz c
  | _ => true

/-- The duties of a device's semaphore: three exchange partners and the chain's neighbours signal the barrier. -/
def dut (c : Dev nD) : Option Dk → Finset (Fin 5)
  | none => Finset.univ.filter fun d => (d = 3 → 0 < zz c) ∧ (d = 4 → zz c < 3)
  | some k => if act c k then {0} else ∅

/-- What a device's semaphore expects in all. -/
def tot (c : Dev nD) (k : Option Dk) : ℕ := (dut c k).card * amt k

/-! ## Payloads -/

/-- The share of the finished block each of its four readers holds. -/
def qsh : Fin 4 → PosShare TreeShare
  | 0 => fullShare.left.left
  | 1 => fullShare.left.right
  | 2 => fullShare.right.left
  | 3 => fullShare.right.right

/-- The blocks of the minus buffer the previous device offers `c`: the rows `c` sends down. -/
def offerM (c : Dev nD) (r : Fin 4) (h : Fin 2) : sProp 𝕄 :=
  if r.val < zz c then iprop(∃ f, mpt (F := F) (dn c) (mB r h) fullShare f) else iprop(emp)
/-- The blocks of the plus buffer the next device offers `c`: the rows `c` sends up. -/
def offerP (c : Dev nD) (r : Fin 4) (h : Fin 2) : sProp 𝕄 :=
  if zz c < r.val then iprop(∃ f, mpt (F := F) (up c) (pB r h) fullShare f) else iprop(emp)
/-- The column block of its result a partner offers `c`. -/
def offerO (c : Dev nD) (i : Fin 3) : sProp 𝕄 := iprop(∃ f, mpt (F := F) (peer c i) (oB (qf c)) fullShare f)

/-- What the barrier signal of duty `d` hands `c`. -/
def barPay (c : Dev nD) : Fin 5 → sProp 𝕄
  | 0 => offerO c 0
  | 1 => offerO c 1
  | 2 => offerO c 2
  | 3 => bigSep Finset.univ fun p : Fin 4 × Fin 2 => offerM c p.1 p.2
  | 4 => bigSep Finset.univ fun p : Fin 4 × Fin 2 => offerP c p.1 p.2

/-- What a transfer hands `c` with its semaphore. -/
def dmaPay (c : Dev nD) : Dk → sProp 𝕄
  | .ps r h => if zz c = 0 then mpt c (aB r h) fullShare.right (ACC m c) else mpt c (pB r h) fullShare (PP m c)
  | .pr r h => mpt c (pB r h) fullShare (PP m (dn c))
  | .ms r h => if zz c = 3 then mpt c (aB r h) fullShare.right (ACC m c) else mpt c (mB r h) fullShare (MM m c)
  | .mr r h => mpt c (mB r h) fullShare (MM m (up c))
  | .gs i => mpt c qM (qsh i.succ) (Q m c)
  | .gr i => mpt c (oB (qf (peer c i))) fullShare (OUT m c)
  | .inn 0 => iprop(mpt c xM fullShare (X m c) ∗ mpt c xA fullShare (m ((c : Thread nD τ).loc main_arg0)))
  | .inn 1 => iprop(mpt c dM fullShare (DY m c) ∗ mpt c (yB (qf c)) fullShare (m ((c : Thread nD τ).loc main_arg1)))
  | .out => iprop(mpt c (oB (qf c)) fullShare (OUT m c) ∗ mpt c qM (qsh 0) (Q m c))

def pay (c : Dev nD) : Option Dk → Fin 5 → sProp 𝕄
  | none, d => barPay c d
  | some k, _ => dmaPay m c k

theorem mpt_storable {sp : Space} {s : Shape} {e : EltTy} (c : Dev nD) (M : Memref sig .tc sp s e) (q : PosShare TreeShare)
    (f : Buf (Elt F) (M.view.loc (c : Thread nD τ))) : BI.Storable (upEmb : UEmb _ 𝕄) (mpt c M q f) := inferInstance
theorem mptE_storable {sp : Space} {s : Shape} {e : EltTy} (c : Dev nD) (M : Memref sig .tc sp s e) (q : PosShare TreeShare) :
    BI.Storable (upEmb : UEmb _ 𝕄) iprop(∃ f, mpt (F := F) c M q f) := inferInstance
theorem emp_storable : BI.Storable (upEmb : UEmb _ 𝕄) iprop(emp) := inferInstance
theorem sep_storable {P R : sProp 𝕄} (hP : BI.Storable (upEmb : UEmb _ 𝕄) P) (hR : BI.Storable (upEmb : UEmb _ 𝕄) R) :
    BI.Storable (upEmb : UEmb _ 𝕄) iprop(P ∗ R) := inferInstance
theorem bigSep_storable {I : Type} [DecidableEq I] (s : Finset I) {P : I → sProp 𝕄} (hP : ∀ i, BI.Storable (upEmb : UEmb _ 𝕄) (P i)) :
    BI.Storable (upEmb : UEmb _ 𝕄) (bigSep s P) := inferInstance

theorem offerM_storable (c : Dev nD) (r : Fin 4) (h : Fin 2) : BI.Storable (upEmb : UEmb _ 𝕄) (offerM (F := F) c r h) := by
  unfold offerM
  by_cases hz : r.val < zz c
  · rw [if_pos hz]; exact mptE_storable _ _ _
  · rw [if_neg hz]; exact emp_storable
theorem offerP_storable (c : Dev nD) (r : Fin 4) (h : Fin 2) : BI.Storable (upEmb : UEmb _ 𝕄) (offerP (F := F) c r h) := by
  unfold offerP
  by_cases hz : zz c < r.val
  · rw [if_pos hz]; exact mptE_storable _ _ _
  · rw [if_neg hz]; exact emp_storable

instance barPay_storable (c : Dev nD) (d : Fin 5) : BI.Storable (upEmb : UEmb _ 𝕄) (barPay (F := F) c d) := by
  match d with
  | 0 => exact mptE_storable _ _ _
  | 1 => exact mptE_storable _ _ _
  | 2 => exact mptE_storable _ _ _
  | 3 => exact bigSep_storable _ fun p => offerM_storable c p.1 p.2
  | 4 => exact bigSep_storable _ fun p => offerP_storable c p.1 p.2

instance dmaPay_storable (c : Dev nD) (k : Dk) : BI.Storable (upEmb : UEmb _ 𝕄) (dmaPay m c k) := by
  match k with
  | .ps r h =>
    show BI.Storable _ (if zz c = 0 then mpt c (aB r h) fullShare.right (ACC m c) else mpt c (pB r h) fullShare (PP m c))
    by_cases hz : zz c = 0
    · rw [if_pos hz]; exact mpt_storable _ _ _ _
    · rw [if_neg hz]; exact mpt_storable _ _ _ _
  | .ms r h =>
    show BI.Storable _ (if zz c = 3 then mpt c (aB r h) fullShare.right (ACC m c) else mpt c (mB r h) fullShare (MM m c))
    by_cases hz : zz c = 3
    · rw [if_pos hz]; exact mpt_storable _ _ _ _
    · rw [if_neg hz]; exact mpt_storable _ _ _ _
  | .pr r h => exact mpt_storable _ _ _ _
  | .mr r h => exact mpt_storable _ _ _ _
  | .gs i => exact mpt_storable _ _ _ _
  | .gr i => exact mpt_storable _ _ _ _
  | .inn 0 => exact sep_storable (mpt_storable _ _ _ _) (mpt_storable _ _ _ _)
  | .inn 1 => exact sep_storable (mpt_storable _ _ _ _) (mpt_storable _ _ _ _)
  | .out => exact sep_storable (mpt_storable _ _ _ _) (mpt_storable _ _ _ _)

/-- The schedule of the protocol. -/
def Rd : Rounds.Schedule (GSem nD τ sig) (Fin 5) 𝕄 where
  duties g r := if r = 0 ∧ g.1.2 = .tc then dut g.1.1 (kindOf g.2) else ∅
  unitless _ := False
  amount g _ _ := amt (kindOf g.2)
  payload g _ d := pay m g.1.1 (kindOf g.2) d
  amount_pos g _ _ _ := amt_pos _

instance Rd_payload_storable (g : GSem nD τ sig) (r : ℕ) (d : Fin 5) : BI.Storable (upEmb : UEmb _ 𝕄) ((Rd m).payload g r d) := by
  show BI.Storable _ (pay m g.1.1 (kindOf g.2) d)
  cases kindOf g.2 with
  | none => exact barPay_storable _ _
  | some k => exact dmaPay_storable m _ _

section RdLemmas
variable (c : Dev nD) (k : Option Dk)

theorem Rd_duties : (Rd m).duties (cell c k) 0 = dut c k := by
  dsimp only [Rd]; rw [if_pos ⟨rfl, rfl⟩, kindOf_csem]
theorem Rd_later (g : GSem nD τ sig) : ∀ r, 1 ≤ r → (Rd m).duties g r = ∅ := fun r hr => by
  dsimp only [Rd]; rw [if_neg fun h => by omega]
theorem Rd_amount (d : Fin 5) : (Rd m).amount (cell c k) 0 d = amt k := by dsimp only [Rd]; rw [kindOf_csem]
theorem Rd_payload (d : Fin 5) : (Rd m).payload (cell c k) 0 d = pay m c k d := by dsimp only [Rd]; rw [kindOf_csem]
theorem Rd_expect : (Rd m).expect (cell c k) 0 = tot c k := by
  unfold Schedule.expect Schedule.amountOf tot
  rw [Rd_duties, Finset.sum_congr rfl fun d _ => Rd_amount m c k d, Finset.sum_const, smul_eq_mul]
theorem mem_dut {k : Dk} (h : act c k = true) : (0 : Fin 5) ∈ (Rd m).duties (cell c (some k)) 0 := by
  rw [Rd_duties]; show (0 : Fin 5) ∈ (if act c k then ({0} : Finset (Fin 5)) else ∅); rw [if_pos h]; exact Finset.mem_singleton_self _
theorem tot_some {k : Dk} (h : act c k = true) : tot c (some k) = amt (some k) := by
  unfold tot; show (if act c k then ({0} : Finset (Fin 5)) else ∅).card * _ = _; rw [if_pos h, Finset.card_singleton, one_mul]

end RdLemmas

/-! ## Levels -/

/-- The order in which the semaphores a device still owes may be waited for. -/
def lvk (c : Dev nD) : Option Dk → ℕ
  | none => 1
  | some (.pr r _) => if zz c = 1 then 2 else if zz c = 2 then 6 - r.val else 10
  | some (.mr r _) => if zz c = 2 then 2 else if zz c = 1 then 3 + r.val else 10
  | some (.gr _) => 20
  | some _ => 0

def L (g : GSem nD τ sig) : Finset Unit := if g.1.2 = .tc then {()} else ∅
def lv (g : GSem nD τ sig) (_ : Unit) : ℕ := lvk g.1.1 (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Option Dk) (u : Unit) : lv (cell c k) u = lvk c k := by unfold lv; rw [kindOf_csem]

/-! ## The steps of a device -/

/-- A step of the protocol: a copy on the device, a barrier signal, a remote copy, a wait, and the moment a kept payload
    is read. -/
inductive Ev where
  | copy (k : Dk)
  | sig (n : Dev nD) (d : Fin 5)
  | send (ks : Dk) (n : Dev nD) (kr : Dk)
  | wait (k : Option Dk)
  | take (k : Dk)
deriving DecidableEq

/-- A step only some devices do. -/
abbrev opt (b : Bool) (e : Ev) : List Ev := if b then [e] else []

/-- Whether the device is in the lower half of the chain, which serves the plus stream first; and in the upper half. -/
def lo (c : Dev nD) : Bool := decide (zz c ≤ 1)
def hi (c : Dev nD) : Bool := !lo c

/-- Waiting for half a row of the plus stream, and passing it on. -/
def pW (c : Dev nD) (g : Bool) (r : Fin 4) (h : Fin 2) : List Ev :=
  opt (g && decide (0 < zz c ∧ zz c ≤ r.val)) (.wait (some (.pr r h)))
def pS (c : Dev nD) (g : Bool) (r : Fin 4) (h : Fin 2) : List Ev :=
  opt (g && decide (0 < zz c ∧ zz c < r.val)) (.send (.ps r h) (up c) (.pr r h))
/-- Waiting for half a row of the minus stream, and passing it on. -/
def mW (c : Dev nD) (g : Bool) (r : Fin 4) (h : Fin 2) : List Ev :=
  opt (g && decide (zz c < 3 ∧ r.val ≤ zz c)) (.wait (some (.mr r h)))
def mS (c : Dev nD) (g : Bool) (r : Fin 4) (h : Fin 2) : List Ev :=
  opt (g && decide (zz c < 3 ∧ r.val < zz c)) (.send (.ms r h) (dn c) (.mr r h))
/-- Starting half a row of either stream. -/
def pI (c : Dev nD) (r : Fin 4) (h : Fin 2) : List Ev := opt (decide (zz c = 0)) (.send (.ps r h) (up c) (.pr r h))
def mI (c : Dev nD) (r : Fin 4) (h : Fin 2) : List Ev := opt (decide (zz c = 3)) (.send (.ms r h) (dn c) (.mr r h))
/-- The last waits, for the sends: at the end of a stream and along it. -/
def pE0 (c : Dev nD) (r : Fin 4) (h : Fin 2) : List Ev := opt (decide (zz c = 0)) (.wait (some (.ps r h)))
def pE1 (c : Dev nD) (r : Fin 4) (h : Fin 2) : List Ev := opt (decide (0 < zz c ∧ zz c < r.val)) (.wait (some (.ps r h)))
def mE0 (c : Dev nD) (r : Fin 4) (h : Fin 2) : List Ev := opt (decide (zz c = 3)) (.wait (some (.ms r h)))
def mE1 (c : Dev nD) (r : Fin 4) (h : Fin 2) : List Ev := opt (decide (zz c < 3 ∧ r.val < zz c)) (.wait (some (.ms r h)))
/-- Reading the device's own row of a stream. -/
def pT (c : Dev nD) (h : Fin 2) : List Ev := opt (decide (0 < zz c)) (.take (.pr (zf c) h))
def mT (c : Dev nD) (h : Fin 2) : List Ev := opt (decide (zz c < 3)) (.take (.mr (zf c) h))

section Segments
variable (c : Dev nD) (l : List Ev)

/-- The steps of each stretch of the kernel, before the steps `l`. -/
def seg1 : List Ev := [.copy (.inn 0)] ++ ([.copy (.inn 1)] ++ ([.sig (peer c 1) 1] ++ ([.sig (peer c 2) 2] ++ l)))
def seg2 : List Ev := [.sig (peer c 0) 0] ++ (opt (decide (0 < zz c)) (.sig (dn c) 4) ++ (opt (decide (zz c < 3)) (.sig (up c) 3)
  ++ ([.wait (some (.inn 0))] ++ ([.wait (some (.inn 1))] ++ l))))
def seg3 : List Ev := pI c 3 0 ++ (pI c 3 1 ++ (pI c 2 0 ++ (pI c 2 1 ++ (pI c 1 0 ++ (pI c 1 1 ++ l)))))
def seg4 : List Ev := mI c 0 0 ++ (mI c 0 1 ++ (mI c 1 0 ++ (mI c 1 1 ++ (mI c 2 0 ++ (mI c 2 1 ++ (pW c (lo c) 3 0 ++ l))))))
def seg5 : List Ev := pS c (lo c) 3 0 ++ (pW c (lo c) 3 1 ++ (pS c (lo c) 3 1 ++ (mW c (lo c) 0 0 ++ l)))
def seg6 : List Ev := mS c (lo c) 0 0 ++ (mW c (lo c) 0 1 ++ (mS c (lo c) 0 1 ++ (mW c (hi c) 0 0 ++ l)))
def seg7 : List Ev := mS c (hi c) 0 0 ++ (mW c (hi c) 0 1 ++ (mS c (hi c) 0 1 ++ (pW c (hi c) 3 0 ++ (pS c (hi c) 3 0 ++ l))))
def seg8 : List Ev := pW c (hi c) 3 1 ++ (pS c (hi c) 3 1 ++ (pW c (lo c) 2 0 ++ (pS c (lo c) 2 0 ++ l)))
def seg9 : List Ev := pW c (lo c) 2 1 ++ (pS c (lo c) 2 1 ++ (mW c (lo c) 1 0 ++ (mS c (lo c) 1 0 ++ l)))
def seg10 : List Ev := mW c (lo c) 1 1 ++ (mS c (lo c) 1 1 ++ (mW c (hi c) 1 0 ++ (mS c (hi c) 1 0 ++ l)))
def seg11 : List Ev := mW c (hi c) 1 1 ++ (mS c (hi c) 1 1 ++ (pW c (hi c) 2 0 ++ (pS c (hi c) 2 0 ++ (pW c (hi c) 2 1 ++ l))))
def seg12 : List Ev := pS c (hi c) 2 1 ++ (pW c (lo c) 1 0 ++ (pS c (lo c) 1 0 ++ (pW c (lo c) 1 1 ++ l)))
def seg13 : List Ev := pS c (lo c) 1 1 ++ (mW c (lo c) 2 0 ++ (mS c (lo c) 2 0 ++ (mW c (lo c) 2 1 ++ l)))
def seg14 : List Ev := mS c (lo c) 2 1 ++ (mW c (hi c) 2 0 ++ (mS c (hi c) 2 0 ++ (mW c (hi c) 2 1 ++ (mS c (hi c) 2 1 ++ l))))
def seg15 : List Ev := pW c (hi c) 1 0 ++ (pS c (hi c) 1 0 ++ (pW c (hi c) 1 1 ++ (pS c (hi c) 1 1 ++ l)))
def seg16 : List Ev := pT c 0 ++ (pT c 1 ++ (mT c 0 ++ (mT c 1 ++ ([.copy .out] ++ ([.send (.gs 0) (peer c 0) (.gr 0)] ++ l)))))
def seg17 : List Ev := [.send (.gs 1) (peer c 1) (.gr 1)] ++ ([.send (.gs 2) (peer c 2) (.gr 2)] ++ ([.wait (some (.gr 1))] ++ l))
def seg18 : List Ev := [.wait (some (.gr 2))] ++ ([.wait (some (.gr 0))] ++ ([.wait (some .out)] ++ (pE0 c 3 0 ++ (pE1 c 3 0 ++ l))))
def seg19 : List Ev := pE0 c 3 1 ++ (pE1 c 3 1 ++ (pE0 c 2 0 ++ (pE1 c 2 0 ++ (pE0 c 2 1 ++ (pE1 c 2 1 ++ l)))))
def seg20 : List Ev := pE0 c 1 0 ++ (pE1 c 1 0 ++ (pE0 c 1 1 ++ (pE1 c 1 1 ++ (mE0 c 0 0 ++ l))))
def seg21 : List Ev := mE1 c 0 0 ++ (mE0 c 0 1 ++ (mE1 c 0 1 ++ (mE0 c 1 0 ++ (mE1 c 1 0 ++ l))))
def seg22 : List Ev := mE0 c 1 1 ++ (mE1 c 1 1 ++ (mE0 c 2 0 ++ (mE1 c 2 0 ++ (mE0 c 2 1 ++ l))))
def seg23 : List Ev := mE1 c 2 1 ++ ([.wait (some (.gs 0))] ++ ([.wait (some (.gs 1))] ++ ([.wait (some (.gs 2))] ++ l)))

end Segments

/-- The steps after the barrier, and all the steps of a device. -/
def tail (c : Dev nD) : List Ev :=
  seg3 c (seg4 c (seg5 c (seg6 c (seg7 c (seg8 c (seg9 c (seg10 c (seg11 c (seg12 c (seg13 c (seg14 c (seg15 c (seg16 c
    (seg17 c (seg18 c (seg19 c (seg20 c (seg21 c (seg22 c (seg23 c []))))))))))))))))))))
/-- The barrier wait: the devices inside the chain are signalled once more than those at its ends. -/
def mid (c : Dev nD) : Bool := decide (0 < zz c ∧ zz c < 3)
def segB (c : Dev nD) (l : List Ev) : List Ev := opt (mid c) (.wait none) ++ (opt (!mid c) (.wait none) ++ l)
def events (c : Dev nD) : List Ev := seg1 c (seg2 c (segB c (tail c)))

/-! ## Running the steps -/

/-- What a list of steps still owes other devices' semaphores. -/
def owedL : List Ev → List (Dev nD × Option Dk)
  | [] => []
  | .sig n _ :: l => (n, none) :: owedL l
  | .send _ n kr :: l => (n, some kr) :: owedL l
  | .copy _ :: l => owedL l
  | .wait _ :: l => owedL l
  | .take _ :: l => owedL l

/-- The received half row a send passes on: none at the start of a stream and for the exchanges. -/
def srcK (c : Dev nD) : Dk → Option Dk
  | .ps r h => if zz c = 0 then none else some (.pr r h)
  | .ms r h => if zz c = 3 then none else some (.mr r h)
  | _ => none

/-- The semaphores whose payload is kept when they are waited for; the others' is used at once. -/
def keep : Option Dk → Bool
  | none => false
  | some (.inn _) => false
  | some _ => true

/-- The waits that may come next, the semaphores done with, the payloads kept. -/
abbrev Sx : Type := List (Option Dk) × List (Option Dk) × List Dk

/-- The kept payloads after a wait, and after a send. -/
def kept (Kp : List Dk) : Option Dk → List Dk
  | none => Kp
  | some k => if keep (some k) then k :: Kp else Kp
def spent (Kp : List Dk) : Option Dk → List Dk
  | none => Kp
  | some k => Kp.erase k

/-- One step: what must be at hand for it, and what is at hand after it. -/
def step (c : Dev nD) (e : Ev) (l : List Ev) (s : Sx) : Option Sx :=
  match e with
  | .copy k => if act c k then some (some k :: s.1, s.2.1, s.2.2) else none
  | .sig n d => if d ∈ dut n none then some s else none
  | .send ks n kr => if act c ks && act n kr && (srcK c ks).all (· ∈ s.2.2) then
      some (some ks :: s.1, s.2.1, spent s.2.2 (srcK c ks)) else none
  | .wait k => if k ∈ s.1 && k.all (act c) && (owedL l).all (fun x => lvk c k < lvk x.1 x.2) then
      some (s.1.erase k, k :: s.2.1, kept s.2.2 k) else none
  | .take k => if k ∈ s.2.2 then some (s.1, s.2.1, s.2.2.erase k) else none

def run (c : Dev nD) : List Ev → Sx → Option Sx
  | [], s => some s
  | e :: l, s => match step c e l s with
    | none => none
    | some s' => run c l s'

/-- The half rows in a fixed order. -/
def rh : List (Fin 4 × Fin 2) := [(0, 0), (0, 1), (1, 0), (1, 1), (2, 0), (2, 1), (3, 0), (3, 1)]

/-- The semaphores others pay: their waits are possible from the start. -/
def given (c : Dev nD) : List (Option Dk) :=
  [none, some (.gr 0), some (.gr 1), some (.gr 2)]
    ++ ((rh.filter fun p => act c (.pr p.1 p.2)).map fun p => some (.pr p.1 p.2))
    ++ ((rh.filter fun p => act c (.mr p.1 p.2)).map fun p => some (.mr p.1 p.2))

/-- What is at hand at the end. -/
def fin (c : Dev nD) : Sx := (run c (events c) (given c, [], [])).getD ([], [], [])

set_option maxRecDepth 20000 in
/-- Every device's steps run through. -/
theorem run_events (c : Dev nD) : run c (events c) (given c, [], []) = some (fin c) := by
  have h : ∀ c : Dev nD, (run c (events c) (given c, [], [])).isSome = true := by decide +kernel
  unfold fin
  obtain ⟨x, hx⟩ := Option.isSome_iff_exists.mp (h c)
  rw [hx]; rfl

end Cert.KProof
-- ==== Proof.Steps.lean ====
/-
  The state between two steps of a device, and what one step does to it.

  `St b c l` says that device `c` still has the steps `l` to do and holds everything it needs for them: what it owes, the
  tokens it will pay with, its positions at the semaphores it will wait for, the credit tokens of the waits that may
  come, the payloads it keeps and the counters of the semaphores it is done with; and, after the barrier (`b`), the
  remote memory it will write and a share of its own product.
-/
module

public import proofs.«01_k».proof.Proof.Sched

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The state -/

/-- Every semaphore's invariant, and that its round is open. -/
def records (K : Dev nD × Option Dk → ℕ) : sProp 𝕄 :=
  bigSep Finset.univ fun p : Dev nD × Option Dk =>
    iprop(cellInv ER (Rd m) (K p) (cell p.1 p.2) ∗ reached ER (cell p.1 p.2) 0)

instance records_persistent (K : Dev nD × Option Dk → ℕ) : BI.Persistent (records m K) := by unfold records; infer_instance

theorem records_at (K : Dev nD × Option Dk → ℕ) (p : Dev nD × Option Dk) :
    records m K ⊢ iprop(cellInv ER (Rd m) (K p) (cell p.1 p.2) ∗ reached ER (cell p.1 p.2) 0) := by
  unfold records; exact bigSep_elim (Finset.mem_univ p)

/-- What a list of owed semaphores amounts to. -/
def tal : List (Dev nD × Option Dk) → CellTallies nD τ sig Unit
  | [] => 0
  | x :: l => tal l + tallyAt (cell x.1 x.2) () (amt x.2)

theorem tal_pos {l : List (Dev nD × Option Dk)} {g : GSem nD τ sig} {u : Unit} (h : 0 < tal l g u) : ∃ x ∈ l, g = cell x.1 x.2 := by
  induction l with
  | nil => exact absurd h (Nat.lt_irrefl 0)
  | cons x l ih =>
    rw [tal, Pi.add_apply, Finsupp.add_apply, tallyAt_apply] at h
    by_cases hx : g = cell x.1 x.2 ∧ u = ()
    · exact ⟨x, List.mem_cons_self, hx.1⟩
    · rw [if_neg hx, Nat.add_zero] at h
      obtain ⟨y, hy, hg⟩ := ih h
      exact ⟨y, List.mem_cons_of_mem _ hy, hg⟩

theorem mayWait (c : Dev nD) (k : Option Dk) (l : List (Dev nD × Option Dk)) (h : ∀ x ∈ l, lvk c k < lvk x.1 x.2) :
    (levAts L lv : sProp 𝕄) ⊢ MayWait (c : Thread nD τ) (csem k) () (tal l) :=
  MayOwe.of_cut (L := L) (lev := lv) (lvk c k) (fun p hp => by rw [Finset.mem_singleton.mp hp, L_tc]; exact Finset.mem_singleton_self _)
    (fun g u hg => by obtain ⟨x, hx, rfl⟩ := tal_pos hg; exact Finset.mem_singleton_self _)
    (fun p hp => by rw [Finset.mem_singleton.mp hp]; exact (lv_cell c k _).le)
    (fun g u hg => by obtain ⟨x, hx, rfl⟩ := tal_pos hg; rw [lv_cell]; exact h x hx)

/-- The memory a send of `c` needs beside the half row it passes on: where it lands on `n`, and at the start of a stream
    its source. -/
def dest (c n : Dev nD) : Dk → sProp 𝕄
  | .pr r h => iprop((∃ f, mpt n (pB r h) fullShare f) ∗ (if zz c = 0 then mpt c (aB r h) fullShare.right (ACC m c) else iprop(emp)))
  | .mr r h => iprop((∃ f, mpt n (mB r h) fullShare f) ∗ (if zz c = 3 then mpt c (aB r h) fullShare.right (ACC m c) else iprop(emp)))
  | .gr i => iprop(∃ f, mpt (F := F) n (oB (qf c)) fullShare f)
  | _ => iprop(emp)

/-- What a step needs from the state; the remote memory only after the barrier. -/
def res (b : Bool) (c : Dev nD) : Ev → sProp 𝕄
  | .copy k => dutyTok ER (cell c (some k)) 0 0
  | .sig n d => dutyTok ER (cell n none) 0 d
  | .send ks n kr => iprop(dutyTok ER (cell c (some ks)) 0 0 ∗ dutyTok ER (cell n (some kr)) 0 0 ∗ (if b then dest m c n kr else iprop(emp)))
  | .wait k => atPos ER (cell c k) 0 ∅ 0
  | .take _ => iprop(emp)

def crd (c : Dev nD) (k : Option Dk) : sProp 𝕄 := cred (tallyAt (cell c k) () (tot c k))
def zro (c : Dev nD) (k : Option Dk) : sProp 𝕄 := semVal (cell c k) 0
/-- The kept share of the device's own product. -/
def accL (b : Bool) (c : Dev nD) : sProp 𝕄 := if b then mpt c aM fullShare.left (ACC m c) else iprop(emp)

def St (b : Bool) (c : Dev nD) (l : List Ev) : sProp 𝕄 :=
  iprop(∃ (K : Dev nD × Option Dk → ℕ) (T S : List (Option Dk)) (Kp : List Dk) (W : Waits sig Unit),
    ⌜run c l (T, S, Kp) = some (fin c)⌝ ∗ records m K ∗ levAts L lv ∗ owes (c : Thread nD τ) (tal (owedL l)) W
      ∗ bigSepL l (res m b c) ∗ bigSepL T (crd c) ∗ bigSepL S (zro c) ∗ bigSepL Kp (dmaPay m c) ∗ accL m b c)

/-! ## Lists of assertions -/

theorem bigSepL_erase {I : Type} [BEq I] [LawfulBEq I] {a : I} {l : List I} (h : a ∈ l) (Φ : I → sProp 𝕄) :
    bigSepL l Φ ⊢ iprop(Φ a ∗ bigSepL (l.erase a) Φ) := by
  induction l with
  | nil => exact absurd h List.not_mem_nil
  | cons x l ih =>
    by_cases hx : x = a
    · subst hx; rw [List.erase_cons_head]; exact Entails.of_eq (bigSepL_cons' _ _ _)
    · rw [List.erase_cons_tail (by simpa using hx), bigSepL_cons', bigSepL_cons']
      iintro ⟨Hx, Hl⟩
      ihave H := (ih ((List.mem_cons.mp h).resolve_left fun h' => hx h'.symm)) $$ Hl
      icases H with ⟨Ha, Hl⟩
      isplitl [Ha]; · iexact Ha
      isplitl [Hx] <;> iassumption

theorem bigSepL_push {I : Type} (a : I) (l : List I) (Φ : I → sProp 𝕄) : iprop(Φ a ∗ bigSepL l Φ) ⊢ bigSepL (a :: l) Φ :=
  Entails.of_eq (bigSepL_cons' _ _ _).symm
theorem bigSepL_pop {I : Type} (a : I) (l : List I) (Φ : I → sProp 𝕄) : bigSepL (a :: l) Φ ⊢ iprop(Φ a ∗ bigSepL l Φ) :=
  Entails.of_eq (bigSepL_cons' _ _ _)

/-! ## One step of the run -/

theorem run_copy {c : Dev nD} {k : Dk} {l : List Ev} {T S : List (Option Dk)} {Kp : List Dk} {x : Sx}
    (h : run c (.copy k :: l) (T, S, Kp) = some x) : act c k = true ∧ run c l (some k :: T, S, Kp) = some x := by
  unfold run step at h
  by_cases ha : act c k = true
  · simp only [if_pos ha] at h; exact ⟨ha, h⟩
  · simp only [if_neg ha] at h; exact absurd h (by simp)

theorem run_sig {c n : Dev nD} {d : Fin 5} {l : List Ev} {s x : Sx}
    (h : run c (.sig n d :: l) s = some x) : d ∈ dut n none ∧ run c l s = some x := by
  unfold run step at h
  by_cases ha : d ∈ dut n none
  · simp only [if_pos ha] at h; exact ⟨ha, h⟩
  · simp only [if_neg ha] at h; exact absurd h (by simp)

theorem run_send {c n : Dev nD} {ks kr : Dk} {l : List Ev} {T S : List (Option Dk)} {Kp : List Dk} {x : Sx}
    (h : run c (.send ks n kr :: l) (T, S, Kp) = some x) :
    act c ks = true ∧ act n kr = true ∧ (∀ k, srcK c ks = some k → k ∈ Kp)
      ∧ run c l (some ks :: T, S, spent Kp (srcK c ks)) = some x := by
  unfold run step at h
  by_cases ha : (act c ks && act n kr && (srcK c ks).all (· ∈ Kp)) = true
  · simp only [if_pos ha] at h
    rw [Bool.and_eq_true, Bool.and_eq_true] at ha
    exact ⟨ha.1.1, ha.1.2, fun k hk => by have := ha.2; rw [hk] at this; simpa using this, h⟩
  · simp only [if_neg ha] at h; exact absurd h (by simp)

theorem run_wait {c : Dev nD} {k : Option Dk} {l : List Ev} {T S : List (Option Dk)} {Kp : List Dk} {x : Sx}
    (h : run c (.wait k :: l) (T, S, Kp) = some x) :
    k ∈ T ∧ (∀ k', k = some k' → act c k' = true) ∧ (∀ y ∈ owedL l, lvk c k < lvk y.1 y.2)
      ∧ run c l (T.erase k, k :: S, kept Kp k) = some x := by
  unfold run step at h
  by_cases ha : (k ∈ T && k.all (act c) && (owedL l).all (fun x => lvk c k < lvk x.1 x.2)) = true
  · simp only [if_pos ha] at h
    rw [Bool.and_eq_true, Bool.and_eq_true] at ha
    exact ⟨by simpa using ha.1.1, fun k' hk => by have := ha.1.2; rw [hk] at this; simpa using this,
      fun y hy => by simpa using List.all_eq_true.mp ha.2 y hy, h⟩
  · simp only [if_neg ha] at h; exact absurd h (by simp)

theorem run_take {c : Dev nD} {k : Dk} {l : List Ev} {T S : List (Option Dk)} {Kp : List Dk} {x : Sx}
    (h : run c (.take k :: l) (T, S, Kp) = some x) : k ∈ Kp ∧ run c l (T, S, Kp.erase k) = some x := by
  unfold run step at h
  by_cases ha : k ∈ Kp
  · simp only [if_pos ha] at h; exact ⟨ha, h⟩
  · simp only [if_neg ha] at h; exact absurd h (by simp)

/-! ## The steps -/

/-- The whole payload of a semaphore, and what of it a wait hands to the kernel at once. -/
def allPay (c : Dev nD) : Option Dk → sProp 𝕄
  | none => bigSep (dut c none) (barPay (F := F) c)
  | some k => dmaPay m c k
def yields (c : Dev nD) : Option Dk → sProp 𝕄
  | none => bigSep (dut c none) (barPay (F := F) c)
  | some k => if keep (some k) then iprop(emp) else dmaPay m c k

variable {m}
variable {α : Type} {Q : α → sProp (MT nD τ sig Unit (Elt F) ℕ UU ℕ)} {b : Bool} {c : Dev nD} {l : List Ev}

theorem split_pay (Kp : List Dk) (k : Option Dk) :
    iprop(allPay m c k ∗ bigSepL Kp (dmaPay m c)) ⊢ iprop(bigSepL (kept Kp k) (dmaPay m c) ∗ yields m c k) := by
  cases k with
  | none => exact sep_comm.1
  | some k =>
    show iprop(dmaPay m c k ∗ bigSepL Kp (dmaPay m c))
      ⊢ iprop(bigSepL (if keep (some k) then k :: Kp else Kp) (dmaPay m c) ∗ (if keep (some k) then iprop(emp) else dmaPay m c k))
    by_cases hk : keep (some k) = true
    · rw [if_pos hk, if_pos hk]
      iintro H
      isplitl; · iapply (bigSepL_push k Kp (dmaPay m c)); iexact H
      iempintro
    · rw [if_neg hk, if_neg hk]; exact sep_comm.1

/-- The payloads of a semaphore, when its round is over. -/
theorem rest_eq (k : Option Dk) (ha : ∀ k', k = some k' → act c k' = true) :
    bigSep ((Rd m).duties (cell c k) 0 \ ∅) (fun d => (Rd m).payload (cell c k) 0 d) = allPay m c k := by
  rw [Finset.sdiff_empty, Rd_duties, bigSep_congr fun d _ => Rd_payload m c k d]
  cases k with
  | none => rfl
  | some k =>
    show bigSep (if act c k then ({0} : Finset (Fin 5)) else ∅) _ = dmaPay m c k
    rw [if_pos (ha k rfl), bigSep_singleton]; rfl

/-- The state from its parts. -/
theorem St_mk {K : Dev nD × Option Dk → ℕ} {T S : List (Option Dk)} {Kp : List Dk} {W : Waits sig Unit}
    (h : run c l (T, S, Kp) = some (fin c)) :
    iprop(records m K ∗ levAts L lv ∗ owes (c : Thread nD τ) (tal (owedL l)) W
      ∗ bigSepL l (res m b c) ∗ bigSepL T (crd c) ∗ bigSepL S (zro c) ∗ bigSepL Kp (dmaPay m c) ∗ accL m b c) ⊢ St m b c l := by
  unfold St
  iintro H
  iexists K, T, S, Kp, W
  isplitr; · ipureintro; exact h
  iexact H

/-- The next step's part of the state. -/
theorem res_wait (k : Option Dk) : bigSepL (.wait k :: l) (res m b c) ⊢ iprop(atPos ER (cell c k) 0 ∅ 0 ∗ bigSepL l (res m b c)) :=
  bigSepL_pop _ _ _
theorem res_copy (k : Dk) : bigSepL (.copy k :: l) (res m b c) ⊢ iprop(dutyTok ER (cell c (some k)) 0 0 ∗ bigSepL l (res m b c)) :=
  bigSepL_pop _ _ _
theorem res_sig (n : Dev nD) (d : Fin 5) : bigSepL (.sig n d :: l) (res m b c) ⊢ iprop(dutyTok ER (cell n none) 0 d ∗ bigSepL l (res m b c)) :=
  bigSepL_pop _ _ _
theorem res_send (ks kr : Dk) (n : Dev nD) : bigSepL (.send ks n kr :: l) (res m true c)
    ⊢ iprop((dutyTok ER (cell c (some ks)) 0 0 ∗ dutyTok ER (cell n (some kr)) 0 0 ∗ dest m c n kr) ∗ bigSepL l (res m true c)) :=
  bigSepL_pop _ _ _
theorem res_take (k : Dk) : bigSepL (.take k :: l) (res m b c) ⊢ iprop(emp ∗ bigSepL l (res m b c)) :=
  bigSepL_pop _ _ _

/-- A wait: the semaphore is done with, its payload kept or handed on. -/
theorem st_wait {op : TpuEff nD τ sig (Elt F) Λ₀ .tc PUnit} {k : Option Dk} {n : ℕ}
    (hw : ∀ K : PUnit → sProp 𝕄, wpE (defs₀ (F := F)) 𝒱₀ (c : Thread nD τ) none Set.univ op K = waitSpec (c : Thread nD τ) Set.univ (csem k) n K)
    (hn : (∀ k', k = some k' → act c k' = true) → n = tot c k) {kk : PUnit → Prog (TpuEff nD τ sig (Elt F) Λ₀ .tc) α} :
    St m b c (.wait k :: l)
      ⊢ iprop(((St m b c l ∗ yields m c k) -∗ wp frame (wpE (defs₀ (F := F)) 𝒱₀ (c : Thread nD τ) none) Set.univ (kk ⟨⟩) Q)
          -∗ wp frame (wpE (defs₀ (F := F)) 𝒱₀ (c : Thread nD τ) none) Set.univ (.op op kk) Q) := by
  unfold St
  iintro ⟨%K, %T, %S, %Kp, %W, %hrun, #HR, #HL, HO, Hl, HT, HS, HKp, Ha⟩ Hk
  obtain ⟨hT, hact, hlev, hrun'⟩ := run_wait hrun
  obtain rfl := hn hact
  ihave Hl := (res_wait (m := m) (b := b) (c := c) (l := l) k) $$ Hl
  icases Hl with ⟨Hat, Hl⟩
  ihave HT := (bigSepL_erase hT (crd (F := F) c)) $$ HT
  icases HT with ⟨Hc, HT⟩
  ihave Hr := (records_at m K (c, k)) $$ HR
  icases Hr with ⟨#HI, #Hre⟩
  iapply (Rounds.wp_wait_rest_token 𝒱₀ ER (Rd m) (c : Thread nD τ) none (κ := K (c, k)) hw (Set.mem_univ _) ()
      (O := tal (owedL l)) (W := W) (R := 0) (m := 0) (T := ∅) (by rw [Rd_expect, Nat.zero_add])) $$ [Hc HO Hat]
  · isplitr; · iexact HI
    isplitl [Hc]; · unfold crd; iexact Hc
    isplitl [HO]; · iexact HO
    isplitr; · iapply (mayWait c k _ hlev); iexact HL
    iexact Hat
  iintro ⟨HO, Hat, -, Hpay⟩
  imod (Rounds.cell_close ER (Rd m) (Set.mem_univ (K (c, k))) (fun h => h) (R := 0 + 1) (Rd_later m (cell c k))) $$ [Hat] with Hz
  · isplitr; · iexact HI
    iexact Hat
  ihave Hpay := (Entails.of_eq (rest_eq k hact)) $$ Hpay
  ihave HS := (bigSepL_push k S (zro (F := F) c)) $$ [Hz HS]
  · isplitl [Hz]; · unfold zro; iexact Hz
    iexact HS
  ihave Hp := (split_pay (m := m) (c := c) Kp k) $$ [Hpay HKp]
  · isplitl [Hpay] <;> iassumption
  icases Hp with ⟨HKp, Hy⟩
  iapply Hk
  isplitr [Hy]
  · iexists K, _, _, _, _
    isplitr; · ipureintro; exact hrun'
    isplitr; · iexact HR
    isplitr; · iexact HL
    isplitl [HO]; · iexact HO
    isplitl [Hl]; · iexact Hl
    isplitl [HT]; · iexact HT
    isplitl [HS]; · iexact HS
    isplitl [HKp] <;> iassumption
  · iexact Hy

/-- A copy on the device, of `src` at `fs` to `dst`. -/
theorem st_copy {sp sp' : Space} {s : Shape} {e : EltTy} {src : Memref sig .tc sp s e} {dst : Memref sig .tc sp' s e} {k : Dk}
    {sem : DmaSem sig} (hs : sem = k.ix) {hsrc : src.view.WordExact} {hdst : dst.view.WordExact}
    {hsem : DmaTarget.Typed (nD := nD) sp (.dma sem) (.here (p := (c : Thread nD τ).2) dst)}
    (hN : dst.view.dmaCredit = amt (some k)) {q : PosShare TreeShare} {fs : Buf (Elt F) (src.view.loc (c : Thread nD τ))}
    {fd : Buf (Elt F) (dst.view.loc (c : Thread nD τ))}
    (hpay : iprop(mpt c dst fullShare (dst.view.write (Elt F) fd (src.view.read (Elt F) fs) Finset.univ) ∗ mpt c src q fs) ⊢ dmaPay m c k)
    {kk : PUnit → Prog (TpuEff nD τ sig (Elt F) Λ₀ .tc) α} :
    iprop(St m b c (.copy k :: l) ∗ mpt c src q fs ∗ mpt c dst fullShare fd)
      ⊢ iprop((St m b c l -∗ wp frame (wpE (defs₀ (F := F)) 𝒱₀ (c : Thread nD τ) none) Set.univ (kk ⟨⟩) Q)
          -∗ wp frame (wpE (defs₀ (F := F)) 𝒱₀ (c : Thread nD τ) none) Set.univ
              (Prog.lift (.enqueueDma src (.here dst) (.dma sem) hsrc hdst hsem) >>= kk) Q) := by
  subst hs
  unfold St
  iintro ⟨⟨%K, %T, %S, %Kp, %W, %hrun, #HR, #HL, HO, Hl, HT, HS, HKp, Ha⟩, Hsrc, Hdst⟩ Hk
  obtain ⟨hact, hrun'⟩ := run_copy hrun
  ihave Hl := (res_copy (m := m) (b := b) (c := c) (l := l) k) $$ Hl
  icases Hl with ⟨Htok, Hl⟩
  ihave Hr := (records_at m K (c, some k)) $$ HR
  icases Hr with ⟨#HI, #Hre⟩
  iapply (Rounds.wp_copy_pointsTo 𝒱₀ ER (Rd m) (c : Thread nD τ) none (κ := K (c, some k)) (sem := .dma k.ix) (r := 0) (d := 0)
      (mem_dut m c hact) () (amt (some k)) hN (Rd_amount m c (some k) 0)
      (hpay.trans (Entails.of_eq (Rd_payload m c (some k) 0).symm))) $$ [Hsrc Hdst Htok]
  · isplitr; · iexact HI
    isplitl [Hsrc]; · iexact Hsrc
    isplitl [Hdst]; · iexact Hdst
    isplitl [Htok]; · iexact Htok
    iexact Hre
  iintro Hc
  ihave HT := (bigSepL_push (some k) T (crd (F := F) c)) $$ [Hc HT]
  · isplitl [Hc]; · unfold crd; rw [tot_some c hact]; iexact Hc
    iexact HT
  iapply Hk
  iexists K, _, _, _, _
  isplitr; · ipureintro; exact hrun'
  isplitr; · iexact HR
  isplitr; · iexact HL
  isplitl [HO]; · iexact HO
  isplitl [Hl]; · iexact Hl
  isplitl [HT]; · iexact HT
  isplitl [HS]; · iexact HS
  isplitl [HKp] <;> iassumption

/-- A barrier signal to `n`, handing over the memory of duty `d`. -/
theorem st_sig {n n' : Dev nD} (hn : n' = n) {d : Fin 5} {s : Sem sig} (hs : s = barS) {kk : PUnit → Prog (TpuEff nD τ sig (Elt F) Λ₀ .tc) α} :
    iprop(St m b c (.sig n d :: l) ∗ barPay (F := F) n d)
      ⊢ iprop((St m b c l -∗ wp frame (wpE (defs₀ (F := F)) 𝒱₀ (c : Thread nD τ) none) Set.univ (kk ⟨⟩) Q)
          -∗ wp frame (wpE (defs₀ (F := F)) 𝒱₀ (c : Thread nD τ) none) Set.univ (semSignalWord n' s 1#32 >>= kk) Q) := by
  subst hn hs
  unfold St
  iintro ⟨⟨%K, %T, %S, %Kp, %W, %hrun, #HR, #HL, HO, Hl, HT, HS, HKp, Ha⟩, Hpay⟩ Hk
  obtain ⟨hd, hrun'⟩ := run_sig hrun
  ihave Hl := (res_sig (m := m) (b := b) (c := c) (l := l) n' d) $$ Hl
  icases Hl with ⟨Htok, Hl⟩
  ihave Hr := (records_at m K (n', none)) $$ HR
  icases Hr with ⟨#HI, #Hre⟩
  iapply (Rounds.wp_signal 𝒱₀ ER (Rd m) (c : Thread nD τ) none (dst := (n' : Thread nD τ)) (κ := K (n', none)) (sem := barS) (r := 0)
      (d := d) (by rw [Rd_duties m n' none]; exact hd) ((Rd_amount m n' none d).trans (by decide)) () (tal (owedL l)) rfl)
    $$ [HO Htok Hpay]
  · isplitr; · iexact HI
    isplitl [HO]; · iexact HO
    isplitl [Htok]; · iexact Htok
    isplitl [Hpay]; · rw [Rd_payload m n' none d]; unfold pay; iexact Hpay
    iexact Hre
  iintro HO
  iapply Hk
  iexists K, _, _, _, _
  isplitr; · ipureintro; exact hrun'
  isplitr; · iexact HR
  isplitr; · iexact HL
  isplitl [HO]; · iexact HO
  isplitl [Hl]; · iexact Hl
  isplitl [HT]; · iexact HT
  isplitl [HS]; · iexact HS
  isplitl [HKp] <;> iassumption

/-- Reading a kept payload. -/
theorem st_take {k : Dk} : St m b c (.take k :: l) ⊢ iprop(St m b c l ∗ dmaPay m c k) := by
  unfold St
  iintro ⟨%K, %T, %S, %Kp, %W, %hrun, #HR, #HL, HO, Hl, HT, HS, HKp, Ha⟩
  obtain ⟨hk, hrun'⟩ := run_take hrun
  ihave Hl := (res_take (m := m) (b := b) (c := c) (l := l) k) $$ Hl
  icases Hl with ⟨-, Hl⟩
  ihave HKp := (bigSepL_erase hk (dmaPay m c)) $$ HKp
  icases HKp with ⟨Hp, HKp⟩
  isplitr [Hp]
  · iexists K, _, _, _, _
    isplitr; · ipureintro; exact hrun'
    isplitr; · iexact HR
    isplitr; · iexact HL
    isplitl [HO]; · iexact HO
    isplitl [Hl]; · iexact Hl
    isplitl [HT]; · iexact HT
    isplitl [HS]; · iexact HS
    isplitl [HKp] <;> iassumption
  · iexact Hp

/-- The state in the middle of a send: what the send itself needs beside its source and its landing. -/
def StS (m : (ℓ : Loc nD τ sig) → Buf (Elt F) ℓ) (c : Dev nD) (ks : Dk) (n : Dev nD) (kr : Dk) (l : List Ev) : sProp 𝕄 :=
  iprop(∃ (K : Dev nD × Option Dk → ℕ) (T S : List (Option Dk)) (Kp : List Dk) (W : Waits sig Unit),
    ⌜act c ks = true ∧ act n kr = true ∧ run c l (some ks :: T, S, Kp) = some (fin c)⌝ ∗ records m K ∗ levAts L lv
      ∗ owes (c : Thread nD τ) (tal (owedL l) + tallyAt (cell n (some kr)) () (amt (some kr))) W
      ∗ (dutyTok ER (cell c (some ks)) 0 0 ∗ dutyTok ER (cell n (some kr)) 0 0)
      ∗ bigSepL l (res m true c) ∗ bigSepL T (crd c) ∗ bigSepL S (zro c) ∗ bigSepL Kp (dmaPay m c))

/-- The half row a send passes on. -/
def passed (m : (ℓ : Loc nD τ sig) → Buf (Elt F) ℓ) (c : Dev nD) : Option Dk → sProp 𝕄
  | none => iprop(emp)
  | some k => dmaPay m c k

theorem passed_split (Kp : List Dk) (k : Option Dk) (h : ∀ k', k = some k' → k' ∈ Kp) :
    bigSepL Kp (dmaPay m c) ⊢ iprop(passed m c k ∗ bigSepL (spent Kp k) (dmaPay m c)) := by
  cases k with
  | none => exact (emp_sep (PROP := sProp 𝕄)).2
  | some k => exact bigSepL_erase (h k rfl) _

/-- Starting a send: its landing, the half row it passes on and the own product are at hand. -/
theorem st_open {ks kr : Dk} {n : Dev nD} : St m true c (.send ks n kr :: l)
    ⊢ iprop(StS m c ks n kr l ∗ dest m c n kr ∗ passed m c (srcK c ks) ∗ mpt c aM fullShare.left (ACC m c)) := by
  unfold St
  iintro ⟨%K, %T, %S, %Kp, %W, %hrun, #HR, #HL, HO, Hl, HT, HS, HKp, Ha⟩
  obtain ⟨h1, h2, h3, hrun'⟩ := run_send hrun
  ihave Hl := (res_send (m := m) (c := c) (l := l) ks kr n) $$ Hl
  icases Hl with ⟨⟨Ht1, Ht2, Hd⟩, Hl⟩
  ihave HKp := (passed_split (m := m) (c := c) Kp (srcK c ks) h3) $$ HKp
  icases HKp with ⟨Hp, HKp⟩
  isplitr [Hd Hp Ha]
  · unfold StS
    iexists K, T, S, _, W
    isplitr; · ipureintro; exact ⟨h1, h2, hrun'⟩
    isplitr; · iexact HR
    isplitr; · iexact HL
    isplitl [HO]; · iexact HO
    isplitl [Ht1 Ht2]; · isplitl [Ht1] <;> iassumption
    isplitl [Hl]; · iexact Hl
    isplitl [HT]; · iexact HT
    isplitl [HS] <;> iassumption
  · isplitl [Hd]; · iexact Hd
    isplitl [Hp]; · iexact Hp
    ihave Ha := (Entails.of_eq (show accL m true c = mpt c aM fullShare.left (ACC m c) from rfl)) $$ Ha
    iexact Ha

/-- The send itself. -/
theorem st_send {sp sp' : Space} {s : Shape} {e : EltTy} {src : Memref sig .tc sp s e} {dst : Memref sig .tc sp' s e} {ks kr : Dk}
    {n n' : Dev nD} (hn : n' = n) {sS sR : DmaSem sig} (hsS : sS = ks.ix) (hsR : sR = kr.ix)
    {hsc : (dst : Memref sig (Dev.tc n' : Thread nD τ).2.kind sp' s e).view.ref.isScScratch = false}
    {hsrc : src.view.WordExact} {hdst : dst.view.WordExact}
    {hsem : DmaTarget.Typed sp (.dma sR) (.remote (Dev.tc n' : Thread nD τ) dst (.dma sS) hsc)}
    (hN : dst.view.dmaCredit = amt (some kr)) (hN' : amt (some ks) = amt (some kr))
    {q : PosShare TreeShare} {fs : Buf (Elt F) (src.view.loc (c : Thread nD τ))} {fd : Buf (Elt F) (dst.view.loc (n : Thread nD τ))}
    (hpay₁ : mpt c src q fs ⊢ dmaPay m c ks)
    (hpay₂ : mpt n dst fullShare (dst.view.write (Elt F) fd (src.view.read (Elt F) fs) Finset.univ) ⊢ dmaPay m n kr)
    {kk : PUnit → Prog (TpuEff nD τ sig (Elt F) Λ₀ .tc) α} :
    iprop(StS m c ks n kr l ∗ mpt c src q fs ∗ mpt n dst fullShare fd ∗ mpt c aM fullShare.left (ACC m c))
      ⊢ iprop((St m true c l -∗ wp frame (wpE (defs₀ (F := F)) 𝒱₀ (c : Thread nD τ) none) Set.univ (kk ⟨⟩) Q)
          -∗ wp frame (wpE (defs₀ (F := F)) 𝒱₀ (c : Thread nD τ) none) Set.univ
              (Prog.lift (.enqueueDma src (.remote (Dev.tc n' : Thread nD τ) dst (.dma sS) hsc) (.dma sR) hsrc hdst hsem) >>= kk) Q) := by
  subst hn hsS hsR
  unfold StS
  iintro ⟨⟨%K, %T, %S, %Kp, %W, %hall, #HR, #HL, HO, ⟨Ht1, Ht2⟩, Hl, HT, HS, HKp⟩, Hsrc, Hdst, Ha⟩ Hk
  obtain ⟨h1, h2, hrun'⟩ := hall
  ihave Hr := (records_at m K (c, some ks)) $$ HR
  icases Hr with ⟨#HI, #Hre⟩
  ihave Hr := (records_at m K (n', some kr)) $$ HR
  icases Hr with ⟨#HI', #Hre'⟩
  iapply (Rounds.wp_send_pointsTo 𝒱₀ ER (Rd m) (c : Thread nD τ) none (κ₁ := K (c, some ks)) (κ₂ := K (n', some kr)) (c' := (n' : Thread nD τ))
      (sS := .dma ks.ix) (sem := .dma kr.ix) (r₁ := 0) (r₂ := 0) (d₁ := 0) (d₂ := 0) (fd := fd)
      (mem_dut m c h1) (mem_dut m n' h2) () () (amt (some kr)) hN ((Rd_amount m c (some ks) 0).trans hN') (Rd_amount m n' (some kr) 0)
      (tal (owedL l)) rfl (W := W) (hpay₁.trans (Entails.of_eq (Rd_payload m c (some ks) 0).symm))
      (hpay₂.trans (Entails.of_eq (Rd_payload m n' (some kr) 0).symm))) $$ [Hsrc Hdst HO Ht1 Ht2]
  · isplitr; · iexact HI
    isplitr; · iexact HI'
    isplitl [Hsrc]; · iexact Hsrc
    isplitl [Hdst]; · iexact Hdst
    isplitl [HO]; · iexact HO
    isplitl [Ht1]; · iexact Ht1
    isplitr; · iexact Hre
    isplitl [Ht2]; · iexact Ht2
    iexact Hre'
  iintro ⟨Hc, HO⟩
  ihave HT := (bigSepL_push (some ks) T (crd (F := F) c)) $$ [Hc HT]
  · isplitl [Hc]; · unfold crd; rw [tot_some c h1, hN']; iexact Hc
    iexact HT
  iapply Hk
  iapply (St_mk (m := m) (b := true) hrun')
  isplitr; · iexact HR
  isplitr; · iexact HL
  isplitl [HO]; · iexact HO
  isplitl [Hl]; · iexact Hl
  isplitl [HT]; · iexact HT
  isplitl [HS]; · iexact HS
  isplitl [HKp]; · iexact HKp
  iapply (Entails.of_eq (show mpt c aM fullShare.left (ACC m c) = accL m true c from rfl)); iexact Ha

end Cert.KProof
-- ==== Proof.Guard.lean ====
/-
  The blocks the kernel is made of, as steps on the state: a wait some devices do, a half row passed on with the device's
  own product added, a half row started. Each says: if the rest of the program is right from the state after the block,
  the block and the rest are right from the state before it.
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The program `p` of device `c` runs to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {m : (ℓ : Loc nD τ sig) → Buf (Elt F) ℓ}
variable {α : Type} {Q : α → sProp (MT nD τ sig Unit (Elt F) ℕ UU ℕ)} {P : sProp (MT nD τ sig Unit (Elt F) ℕ UU ℕ)}
  {b : Bool} {c : Dev nD} {l : List Ev}

theorem wp_pure_of {a : α} {A : sProp 𝕄} (h : A ⊢ Q a) : A ⊢ WP c (pure a) Q := by
  unfold WP; rw [wp_pure]; iintro H; imodintro; iapply h; iexact H

theorem wp_bind_of {β : Type} {p : Prog (TpuEff nD τ sig (Elt F) Λ₀ .tc) α} {k : α → Prog (TpuEff nD τ sig (Elt F) Λ₀ .tc) β}
    {Q : β → sProp 𝕄} {A : sProp 𝕄} (h : A ⊢ WP c p (fun x => WP c (k x) Q)) : A ⊢ WP c (p >>= k) Q := by
  unfold WP at *; rw [wp_bind]; exact h

/-! ## Credits -/

theorem aB_credit (r : Fin 4) (h : Fin 2) : (aB r h).view.dmaCredit = Nb := by unfold Nb; rfl
theorem pB_credit (r : Fin 4) (h : Fin 2) : (pB r h).view.dmaCredit = Nb := by unfold Nb; rfl
theorem mB_credit (r : Fin 4) (h : Fin 2) : (mB r h).view.dmaCredit = Nb := by unfold Nb; rfl
theorem oB_credit (j : Fin 4) : (oB j).view.dmaCredit = Nq := by unfold Nq; rfl
theorem dM_credit : (dM : Memref sig .tc .vmem S512x512 .f32).view.dmaCredit = Nw := by unfold Nw; rfl

section Credits
variable (o : Fin 2 → ℕ) (io : ∀ a, o a + S128x256.size a ≤ S512x512.size a) (io' : ∀ a, o a + S128x512.size a ≤ S128x2048.size a)
  (iy : ∀ a, o a + S512x512.size a ≤ S512x2048.size a)
theorem a_credit : (aM.slice (Rect.unit (s := S512x512) o S128x256.size io) (fun _ => rfl)).view.dmaCredit = Nb := by unfold Nb; rfl
theorem p_credit : (pM.slice (Rect.unit (s := S512x512) o S128x256.size io) (fun _ => rfl)).view.dmaCredit = Nb := by unfold Nb; rfl
theorem m_credit : (mM.slice (Rect.unit (s := S512x512) o S128x256.size io) (fun _ => rfl)).view.dmaCredit = Nb := by unfold Nb; rfl
theorem o_credit : (oA.slice (Rect.unit (s := S128x2048) o S128x512.size io') (fun _ => rfl)).view.dmaCredit = Nq := oB_credit 0
end Credits

/-! ## Waits -/

section Waits
variable {sp sp' : Space} {s s' : Shape} {e e' : EltTy} {src : Memref sig .tc sp' s' e'} {dst : Memref sig .tc sp s e}
  {sem : DmaSem sig} {h1 : src.view.WordExact} {h2 : dst.view.WordExact}

/-- A wait every device does. -/
theorem w_all {k : Dk} (hs : sem = k.ix) (hN : dst.view.dmaCredit = amt (some k))
    {kk : PUnit → Prog (TpuEff nD τ sig (Elt F) Λ₀ .tc) α} (hj : iprop(St m b c l ∗ yields m c (some k) ∗ P) ⊢ WP c (kk ⟨⟩) Q) :
    iprop(St m b c ([.wait (some k)] ++ l) ∗ P) ⊢ WP c (Prog.lift (.waitDma2 sem src dst h1 h2) >>= kk) Q := by
  subst hs
  show iprop(St m b c (.wait (some k) :: l) ∗ P) ⊢ _
  iintro ⟨H, HP⟩
  iapply (st_wait (m := m) (b := b) (c := c) (l := l) (k := some k) (n := dst.view.dmaCredit)
    (fun K => wpE_waitDma2_eq 𝒱₀ (c : Thread nD τ) none Set.univ K) (fun ha => hN.trans (tot_some c (ha k rfl)).symm)) $$ H
  iintro ⟨H, Hy⟩
  iapply hj
  isplitl [H]; · iexact H
  isplitl [Hy] <;> iassumption

/-- A wait every device does, whose payload is kept. -/
theorem w_kept {k : Dk} (hs : sem = k.ix) (hN : dst.view.dmaCredit = amt (some k))
    {kk : PUnit → Prog (TpuEff nD τ sig (Elt F) Λ₀ .tc) α} (hj : iprop(St m b c l ∗ P) ⊢ WP c (kk ⟨⟩) Q) :
    iprop(St m b c ([.wait (some k)] ++ l) ∗ P) ⊢ WP c (Prog.lift (.waitDma2 sem src dst h1 h2) >>= kk) Q := by
  refine w_all hs hN (BIBase.Entails.trans ?_ hj)
  iintro ⟨H, -, HP⟩
  isplitl [H] <;> iassumption

/-- A wait the devices of a condition do. -/
theorem w_if {w : BitVec 1} {g : Bool} (hw : w = 1#1 ↔ g = true := by clear * -; revert c; decide +kernel) {k : Dk} (hN : dst.view.dmaCredit = amt (some k)) (hs : sem = k.ix := by rfl)
    {j : Prog (TpuEff nD τ sig (Elt F) Λ₀ .tc) α} (hj : iprop(St m b c l ∗ P) ⊢ WP c j Q) :
    iprop(St m b c (opt g (.wait (some k)) ++ l) ∗ P)
      ⊢ WP c (if h : w = 1#1 then Prog.lift (.waitDma2 sem src dst h1 h2) >>= fun _ => j else j) Q := by
  by_cases hg : g = true
  · rw [dif_pos (hw.mpr hg)]; subst hg
    exact w_kept hs hN hj
  · rw [dif_neg (fun h => hg (hw.mp h))]
    rw [Bool.not_eq_true] at hg; subst hg
    exact hj

end Waits

/-! ## Contents of a block -/

/-- Writing through a view what another array shows through it leaves that array there. -/
theorem write_eq_on {κ : Kind} {sp : Space} {s : Shape} {e : EltTy} (v : View sig κ sp s e) (f g : v.ty.Contents (Elt F))
    (w : s.Idx → Elt F e) (h : w = v.read (Elt F) g) : ∀ i ∈ v.set, v.write (Elt F) f w Finset.univ i = g i := by
  intro i hi
  obtain ⟨x, -, rfl⟩ := Finset.mem_map.mp hi
  rw [View.write_emb_of_mem (Val := Elt F) f w (Finset.mem_univ x), h, View.read_apply, cast_cast, cast_eq]

/-! ## Half rows -/

/-- Half `h` of row block `r` of a square buffer `B`. -/
abbrev bB (B : Memref sig .tc .vmem S512x512 .f32) (r : Fin 4) (h : Fin 2) : Memref sig .tc .vmem S128x256 .f32 :=
  B.slice (blk r h) (fun _ => rfl)

/-- A half row given by its corner. -/
abbrev rc (o : Fin 2 → ℕ) (io : ∀ a, o a + S128x256.size a ≤ S512x512.size a) : Rect S512x512 := Rect.unit (s := S512x512) o S128x256.size io

section Half
variable {B : Memref sig .tc .vmem S512x512 .f32} {r : Fin 4} {h : Fin 2} {ks kr : Dk} {n n' : Dev nD} {sS sR : DmaSem sig}

/-- Starting the sum of a half row. -/
theorem inj_one (hn : n' = n) (hsS : sS = ks.ix) (hsR : sR = kr.ix) (hN : (bB B r h).view.dmaCredit = amt (some kr))
    (hN' : amt (some ks) = amt (some kr)) (G : B.view.ty.Contents (Elt F))
    (hd : dest m c n kr ⊢ iprop((∃ f, mpt n (bB B r h) fullShare f) ∗ mpt c (aB r h) fullShare.right (ACC m c)))
    (hv : (aB r h).view.read (Elt F) (ACC m c) = (bB B r h).view.read (Elt F) G)
    (hp₁ : mpt c (aB r h) fullShare.right (ACC m c) ⊢ dmaPay m c ks)
    (hp₂ : mpt n (bB B r h) fullShare G ⊢ dmaPay m n kr)
    {hsc : ((bB B r h : Memref sig (Dev.tc n' : Thread nD τ).2.kind .vmem S128x256 .f32)).view.ref.isScScratch = false}
    {hsrc : (aB r h).view.WordExact} {hdst : (bB B r h).view.WordExact}
    {hsem : DmaTarget.Typed .vmem (.dma sR) (.remote (Dev.tc n' : Thread nD τ) (bB B r h) (.dma sS) hsc)}
    {kk : PUnit → Prog (TpuEff nD τ sig (Elt F) Λ₀ .tc) α} (hj : iprop(St m true c l ∗ P) ⊢ WP c (kk ⟨⟩) Q) :
    iprop(St m true c (.send ks n kr :: l) ∗ P)
      ⊢ WP c (Prog.lift (.enqueueDma (aB r h) (.remote (Dev.tc n' : Thread nD τ) (bB B r h) (.dma sS) hsc) (.dma sR) hsrc hdst hsem) >>= kk) Q := by
  iintro ⟨H, HP⟩
  ihave H := (st_open (m := m) (c := c) (l := l)) $$ H
  icases H with ⟨H, Hd, -, Ha⟩
  ihave Hd := hd $$ Hd
  icases Hd with ⟨⟨%fd, Hd⟩, Hs⟩
  iapply (st_send (m := m) (c := c) (l := l) (ks := ks) (kr := kr) (n := n) hn hsS hsR (fd := fd) hN hN' hp₁
    (BIBase.Entails.trans (Entails.of_eq (pointsTo_congr (write_eq_on (bB B r h).view fd G _ hv))) hp₂))
    $$ [H Hs Hd Ha]
  · isplitl [H]; · iexact H
    isplitl [Hs]; · iexact Hs
    isplitl [Hd]; · iexact Hd
    iexact Ha
  iintro H
  iapply hj
  isplitl [H] <;> iassumption

/-- Passing a half row on: the device adds its own product to what it received and sends the sum. -/
theorem add_one (hn : n' = n) (hsS : sS = ks.ix) (hsR : sR = kr.ix) (hN : (bB B r h).view.dmaCredit = amt (some kr))
    (hN' : amt (some ks) = amt (some kr)) (Gi Go : B.view.ty.Contents (Elt F)) {pf : FVec F S128x256 .f32 → FVec F S128x256 .f32 → FVec F S128x256 .f32}
    (hd : dest m c n kr ⊢ iprop(∃ f, mpt n (bB B r h) fullShare f))
    (hs : passed m c (srcK c ks) ⊢ mpt c (bB B r h) fullShare Gi)
    (hv : pf ((bB B r h).view.read (Elt F) Gi) ((aB r h).view.read (Elt F) (ACC m c)) = (bB B r h).view.read (Elt F) Go)
    (hp₁ : mpt c (bB B r h) fullShare Go ⊢ dmaPay m c ks)
    (hp₂ : mpt n (bB B r h) fullShare Go ⊢ dmaPay m n kr)
    {hl₁ : B.view.LoadsAt (blk r h).toLoadRect} {hl₂ : aM.view.LoadsAt (blk r h).toLoadRect} {hl₃ : B.view.LoadsAt (blk r h).toLoadRect}
    {hx : (B.access (blk r h)).Stores Finset.univ} {hm : (Finset.univ : Finset (blk r h).shape.Idx) = Finset.univ ∨ ∀ a, (blk r h).stride a = 1}
    {hsc : ((bB B r h : Memref sig (Dev.tc n' : Thread nD τ).2.kind .vmem S128x256 .f32)).view.ref.isScScratch = false}
    {hsrc : (bB B r h).view.WordExact} {hdst : (bB B r h).view.WordExact}
    {hsem : DmaTarget.Typed .vmem (.dma sR) (.remote (Dev.tc n' : Thread nD τ) (bB B r h) (.dma sS) hsc)}
    {kk : PUnit → Prog (TpuEff nD τ sig (Elt F) Λ₀ .tc) α} (hj : iprop(St m true c l ∗ P) ⊢ WP c (kk ⟨⟩) Q) :
    iprop(St m true c (.send ks n kr :: l) ∗ P)
      ⊢ WP c (Prog.lift (.load B (blk r h).toLoadRect hl₁) >>= fun (v₁ : Vec F S128x256 .f32) => Prog.lift (.load aM (blk r h).toLoadRect hl₂) >>= fun (v₂ : Vec F S128x256 .f32) =>
          Prog.lift (.load B (blk r h).toLoadRect hl₃) >>= fun (v₃ : Vec F S128x256 .f32) => Prog.lift (.store B (blk r h) (pf v₁ v₂) Finset.univ hx hm) >>= fun _ =>
          Prog.lift (.enqueueDma (bB B r h) (.remote (Dev.tc n' : Thread nD τ) (bB B r h) (.dma sS) hsc) (.dma sR) hsrc hdst hsem) >>= kk) Q := by
  iintro ⟨H, HP⟩
  ihave H := (st_open (m := m) (c := c) (l := l)) $$ H
  icases H with ⟨H, Hd, Hs, Ha⟩
  ihave Hd := hd $$ Hd
  icases Hd with ⟨%fd, Hd⟩
  ihave Hs := hs $$ Hs
  iapply (wp_load_rect 𝒱₀ (c : Thread nD τ) none Set.univ (m := B) (r := blk r h) (S := (bB B r h).view.set) (Finset.Subset.refl _)) $$ Hs
  iintro Hs
  iapply (wp_load_rect 𝒱₀ (c : Thread nD τ) none Set.univ (m := aM) (r := blk r h) (S := aM.view.set) (by
    rw [View.set_whole]; exact Finset.subset_univ _)) $$ Ha
  iintro Ha
  iapply (wp_load_rect 𝒱₀ (c : Thread nD τ) none Set.univ (m := B) (r := blk r h) (S := (bB B r h).view.set) (Finset.Subset.refl _)) $$ Hs
  iintro Hs
  iapply (wp_store 𝒱₀ (c : Thread nD τ) none Set.univ (m := B) (r := blk r h) (S := (bB B r h).view.set) (View.setOn_subset_set _ _)) $$ Hs
  iintro Hs
  ihave Hs := (Entails.of_eq (pointsTo_congr (write_eq_on (bB B r h).view Gi Go _ hv))) $$ Hs
  iapply (st_send (m := m) (c := c) (l := l) (ks := ks) (kr := kr) (n := n) hn hsS hsR (fd := fd) hN hN' hp₁
    (BIBase.Entails.trans (Entails.of_eq (pointsTo_congr (write_eq_on (bB B r h).view fd Go _ rfl))) hp₂))
    $$ [H Hs Hd Ha]
  · isplitl [H]; · iexact H
    isplitl [Hs]; · iexact Hs
    isplitl [Hd]; · iexact Hd
    iexact Ha
  iintro H
  iapply hj
  isplitl [H] <;> iassumption

end Half

/-- A step the devices of a condition do. -/
theorem guard {w : BitVec 1} {g : Bool} (hw : w = 1#1 ↔ g = true) {e : Ev} {p : w = 1#1 → Prog (TpuEff nD τ sig (Elt F) Λ₀ .tc) α}
    {j : Prog (TpuEff nD τ sig (Elt F) Λ₀ .tc) α} (hp : ∀ h : w = 1#1, g = true → (iprop(St m b c (e :: l) ∗ P) ⊢ WP c (p h) Q))
    (hj : iprop(St m b c l ∗ P) ⊢ WP c j Q) :
    iprop(St m b c (opt g e ++ l) ∗ P) ⊢ WP c (if h : w = 1#1 then p h else j) Q := by
  by_cases hg : g = true
  · rw [dif_pos (hw.mpr hg)]; subst hg
    exact hp _ rfl
  · rw [dif_neg (fun h => hg (hw.mp h))]
    rw [Bool.not_eq_true] at hg; subst hg
    exact hj

theorem dest_pr (m : (ℓ : Loc nD τ sig) → Buf (Elt F) ℓ) (c n : Dev nD) (r : Fin 4) (h : Fin 2) : dest m c n (.pr r h)
    = iprop((∃ f, mpt n (pB r h) fullShare f) ∗ (if zz c = 0 then mpt c (aB r h) fullShare.right (ACC m c) else iprop(emp))) := rfl
theorem dest_mr (m : (ℓ : Loc nD τ sig) → Buf (Elt F) ℓ) (c n : Dev nD) (r : Fin 4) (h : Fin 2) : dest m c n (.mr r h)
    = iprop((∃ f, mpt n (mB r h) fullShare f) ∗ (if zz c = 3 then mpt c (aB r h) fullShare.right (ACC m c) else iprop(emp))) := rfl
theorem dmaPay_ps (m : (ℓ : Loc nD τ sig) → Buf (Elt F) ℓ) (c : Dev nD) (r : Fin 4) (h : Fin 2) : dmaPay m c (.ps r h)
    = if zz c = 0 then mpt c (aB r h) fullShare.right (ACC m c) else mpt c (pB r h) fullShare (PP m c) := rfl
theorem dmaPay_ms (m : (ℓ : Loc nD τ sig) → Buf (Elt F) ℓ) (c : Dev nD) (r : Fin 4) (h : Fin 2) : dmaPay m c (.ms r h)
    = if zz c = 3 then mpt c (aB r h) fullShare.right (ACC m c) else mpt c (mB r h) fullShare (MM m c) := rfl

/-! ## The two streams -/

/-- The plus stream: passing half `h` of row block `r` on, on the devices of a condition. -/
theorem p_add (r : Fin 4) (h : Fin 2) {w : BitVec 1} {g : Bool} (hw : w = 1#1 ↔ g = true := by clear * -; revert c; decide +kernel) (hg : g = true → 0 < zz c ∧ zz c < r.val := by clear * -; revert c; decide +kernel)
    {n' : w = 1#1 → Dev nD} (hn : ∀ h', n' h' = up c := by clear * -; revert c; decide +kernel) {sS sR : DmaSem sig} (hsS : sS = (Dk.ps r h).ix := by rfl) (hsR : sR = (Dk.pr r h).ix := by rfl)
    {pf : FVec F S128x256 .f32 → FVec F S128x256 .f32 → FVec F S128x256 .f32} (hp : ∀ a b, pf a b = addf a b := by intro a b; exact shapeCast_self _ _)
    {o : Fin 2 → ℕ} {io : ∀ a, o a + S128x256.size a ≤ S512x512.size a} (ho : o = ![128 * r.val, 256 * h.val] := by rfl)
    {j : Prog (TpuEff nD τ sig (Elt F) Λ₀ .tc) α} (hj : iprop(St m true c l ∗ P) ⊢ WP c j Q) :
    iprop(St m true c (opt g (.send (.ps r h) (up c) (.pr r h)) ++ l) ∗ P)
      ⊢ WP c (if h' : w = 1#1 then
          Prog.lift (.load pM (rc o io).toLoadRect (View.loadsAt_vmem h_S128x256)) >>= fun (v₁ : Vec F S128x256 .f32) =>
          Prog.lift (.load aM (rc o io).toLoadRect (View.loadsAt_vmem h_S128x256)) >>= fun (v₂ : Vec F S128x256 .f32) =>
          Prog.lift (.load pM (rc o io).toLoadRect (View.loadsAt_vmem h_S128x256)) >>= fun (v₃ : Vec F S128x256 .f32) =>
          Prog.lift (.store pM (rc o io) (pf v₁ v₂) Finset.univ (View.stores_vmem_bits_univ h_S128x256 rfl) (.inl rfl)) >>= fun _ =>
          Prog.lift (.enqueueDma (pM.slice (rc o io) (fun _ => rfl)) (.remote (Dev.tc (n' h') : Thread nD τ) (pM.slice (rc o io) (fun _ => rfl)) (.dma sS)) (.dma sR) (View.wordExact_bits rfl) (View.wordExact_bits rfl) ⟨⟨rfl, Or.inl rfl⟩, trivial⟩) >>= fun _ => j
        else j) Q := by
  subst ho
  refine guard hw (fun h' hg' => ?_) hj
  obtain ⟨h1, h2⟩ := hg hg'
  refine add_one (B := pM) (r := r) (h := h) (ks := .ps r h) (kr := .pr r h) (n := up c) (hn h') hsS hsR (pB_credit r h) rfl
    (PP m (dn c)) (PP m c) ?_ ?_ ?_ ?_ ?_ hj
  · refine BIBase.Entails.trans (Entails.of_eq (dest_pr m c _ r h)) ?_
    iintro ⟨H, -⟩; iexact H
  · exact Entails.of_eq (by show passed m c (if zz c = 0 then none else some (.pr r h)) = _; rw [if_neg (by omega)]; rfl)
  · rw [hp, PP_succ m c (by omega)]; rfl
  · exact Entails.of_eq ((dmaPay_ps m c r h).trans (if_neg (by omega))).symm
  · exact Entails.of_eq (by show _ = mpt (up c) (pB r h) fullShare (PP m (dn (up c))); rw [dn_up c (by omega)])

/-- The plus stream: starting row block `r` at the end of the chain. -/
theorem p_inj (r : Fin 4) {w : BitVec 1} {g : Bool} (hw : w = 1#1 ↔ g = true := by clear * -; revert c; decide +kernel) (hg : g = true → zz c = 0 := by clear * -; revert c; decide +kernel)
    {n' n'' : w = 1#1 → Dev nD} (hn : ∀ h', n' h' = up c := by clear * -; revert c; decide +kernel) (hn' : ∀ h', n'' h' = up c := by clear * -; revert c; decide +kernel)
    {s₀ s₀' s₁ s₁' : DmaSem sig} (h₀ : s₀ = (Dk.ps r 0).ix := by rfl) (h₀' : s₀' = (Dk.pr r 0).ix := by rfl) (h₁ : s₁ = (Dk.ps r 1).ix := by rfl) (h₁' : s₁' = (Dk.pr r 1).ix := by rfl)
    {o o' : Fin 2 → ℕ} {io : ∀ a, o a + S128x256.size a ≤ S512x512.size a} {io' : ∀ a, o' a + S128x256.size a ≤ S512x512.size a}
    (ho : o = ![128 * r.val, 256 * (0 : Fin 2).val] := by rfl) (ho' : o' = ![128 * r.val, 256 * (1 : Fin 2).val] := by rfl)
    {j : Prog (TpuEff nD τ sig (Elt F) Λ₀ .tc) α} (hj : iprop(St m true c l ∗ P) ⊢ WP c j Q) :
    iprop(St m true c (opt g (.send (.ps r 0) (up c) (.pr r 0)) ++ (opt g (.send (.ps r 1) (up c) (.pr r 1)) ++ l)) ∗ P)
      ⊢ WP c (if h' : w = 1#1 then
          Prog.lift (.enqueueDma (aM.slice (rc o io) (fun _ => rfl)) (.remote (Dev.tc (n' h') : Thread nD τ) (pM.slice (rc o io) (fun _ => rfl)) (.dma s₀)) (.dma s₀') (View.wordExact_bits rfl) (View.wordExact_bits rfl) ⟨⟨rfl, Or.inl rfl⟩, trivial⟩) >>= fun _ =>
          Prog.lift (.enqueueDma (aM.slice (rc o' io') (fun _ => rfl)) (.remote (Dev.tc (n'' h') : Thread nD τ) (pM.slice (rc o' io') (fun _ => rfl)) (.dma s₁)) (.dma s₁') (View.wordExact_bits rfl) (View.wordExact_bits rfl) ⟨⟨rfl, Or.inl rfl⟩, trivial⟩) >>= fun _ => j
        else j) Q := by
  subst ho ho'
  by_cases hg' : g = true
  · rw [dif_pos (hw.mpr hg')]; subst hg'
    have hz := hg rfl
    have hone : ∀ h, (dest m c (up c) (.pr r h) ⊢ iprop((∃ f, mpt (up c) (bB pM r h) fullShare f) ∗ mpt c (aB r h) fullShare.right (ACC m c)))
        ∧ (mpt c (aB r h) fullShare.right (ACC m c) ⊢ dmaPay m c (.ps r h))
        ∧ (mpt (up c) (bB pM r h) fullShare (PP m c) ⊢ dmaPay m (up c) (.pr r h)) := fun h =>
      ⟨Entails.of_eq (by rw [dest_pr, if_pos hz]), Entails.of_eq ((dmaPay_ps m c r h).trans (if_pos hz)).symm,
        Entails.of_eq (by show _ = mpt (up c) (pB r h) fullShare (PP m (dn (up c))); rw [dn_up c (by omega)])⟩
    have hv : ACC m c = PP m c := (PP_zero m c hz).symm
    refine inj_one (B := pM) (r := r) (h := 0) (ks := .ps r 0) (kr := .pr r 0) (n := up c) (hn _) h₀ h₀' (pB_credit r 0) rfl
      (PP m c) (hone 0).1 (by rw [hv]; rfl) (hone 0).2.1 (hone 0).2.2 ?_
    exact inj_one (B := pM) (r := r) (h := 1) (ks := .ps r 1) (kr := .pr r 1) (n := up c) (hn' _) h₁ h₁' (pB_credit r 1) rfl
      (PP m c) (hone 1).1 (by rw [hv]; rfl) (hone 1).2.1 (hone 1).2.2 hj
  · rw [dif_neg (fun h => hg' (hw.mp h))]
    rw [Bool.not_eq_true] at hg'; subst hg'
    exact hj

/-- The minus stream: passing half `h` of row block `r` on, on the devices of a condition. -/
theorem m_add (r : Fin 4) (h : Fin 2) {w : BitVec 1} {g : Bool} (hw : w = 1#1 ↔ g = true := by clear * -; revert c; decide +kernel) (hg : g = true → zz c < 3 ∧ r.val < zz c := by clear * -; revert c; decide +kernel)
    {n' : w = 1#1 → Dev nD} (hn : ∀ h', n' h' = dn c := by clear * -; revert c; decide +kernel) {sS sR : DmaSem sig} (hsS : sS = (Dk.ms r h).ix := by rfl) (hsR : sR = (Dk.mr r h).ix := by rfl)
    {pf : FVec F S128x256 .f32 → FVec F S128x256 .f32 → FVec F S128x256 .f32} (hp : ∀ a b, pf a b = addf a b := by intro a b; exact shapeCast_self _ _)
    {o : Fin 2 → ℕ} {io : ∀ a, o a + S128x256.size a ≤ S512x512.size a} (ho : o = ![128 * r.val, 256 * h.val] := by rfl)
    {j : Prog (TpuEff nD τ sig (Elt F) Λ₀ .tc) α} (hj : iprop(St m true c l ∗ P) ⊢ WP c j Q) :
    iprop(St m true c (opt g (.send (.ms r h) (dn c) (.mr r h)) ++ l) ∗ P)
      ⊢ WP c (if h' : w = 1#1 then
          Prog.lift (.load mM (rc o io).toLoadRect (View.loadsAt_vmem h_S128x256)) >>= fun (v₁ : Vec F S128x256 .f32) =>
          Prog.lift (.load aM (rc o io).toLoadRect (View.loadsAt_vmem h_S128x256)) >>= fun (v₂ : Vec F S128x256 .f32) =>
          Prog.lift (.load mM (rc o io).toLoadRect (View.loadsAt_vmem h_S128x256)) >>= fun (v₃ : Vec F S128x256 .f32) =>
          Prog.lift (.store mM (rc o io) (pf v₁ v₂) Finset.univ (View.stores_vmem_bits_univ h_S128x256 rfl) (.inl rfl)) >>= fun _ =>
          Prog.lift (.enqueueDma (mM.slice (rc o io) (fun _ => rfl)) (.remote (Dev.tc (n' h') : Thread nD τ) (mM.slice (rc o io) (fun _ => rfl)) (.dma sS)) (.dma sR) (View.wordExact_bits rfl) (View.wordExact_bits rfl) ⟨⟨rfl, Or.inl rfl⟩, trivial⟩) >>= fun _ => j
        else j) Q := by
  subst ho
  refine guard hw (fun h' hg' => ?_) hj
  obtain ⟨h1, h2⟩ := hg hg'
  refine add_one (B := mM) (r := r) (h := h) (ks := .ms r h) (kr := .mr r h) (n := dn c) (hn h') hsS hsR (mB_credit r h) rfl
    (MM m (up c)) (MM m c) ?_ ?_ ?_ ?_ ?_ hj
  · refine BIBase.Entails.trans (Entails.of_eq (dest_mr m c _ r h)) ?_
    iintro ⟨H, -⟩; iexact H
  · exact Entails.of_eq (by show passed m c (if zz c = 3 then none else some (.mr r h)) = _; rw [if_neg (by omega)]; rfl)
  · rw [hp, MM_succ m c (by omega)]; rfl
  · exact Entails.of_eq ((dmaPay_ms m c r h).trans (if_neg (by omega))).symm
  · exact Entails.of_eq (by show _ = mpt (dn c) (mB r h) fullShare (MM m (up (dn c))); rw [up_dn c (by omega)])

/-- The minus stream: starting row block `r` at the end of the chain. -/
theorem m_inj (r : Fin 4) {w : BitVec 1} {g : Bool} (hw : w = 1#1 ↔ g = true := by clear * -; revert c; decide +kernel) (hg : g = true → zz c = 3 := by clear * -; revert c; decide +kernel)
    {n' n'' : w = 1#1 → Dev nD} (hn : ∀ h', n' h' = dn c := by clear * -; revert c; decide +kernel) (hn' : ∀ h', n'' h' = dn c := by clear * -; revert c; decide +kernel)
    {s₀ s₀' s₁ s₁' : DmaSem sig} (h₀ : s₀ = (Dk.ms r 0).ix := by rfl) (h₀' : s₀' = (Dk.mr r 0).ix := by rfl) (h₁ : s₁ = (Dk.ms r 1).ix := by rfl) (h₁' : s₁' = (Dk.mr r 1).ix := by rfl)
    {o o' : Fin 2 → ℕ} {io : ∀ a, o a + S128x256.size a ≤ S512x512.size a} {io' : ∀ a, o' a + S128x256.size a ≤ S512x512.size a}
    (ho : o = ![128 * r.val, 256 * (0 : Fin 2).val] := by rfl) (ho' : o' = ![128 * r.val, 256 * (1 : Fin 2).val] := by rfl)
    {j : Prog (TpuEff nD τ sig (Elt F) Λ₀ .tc) α} (hj : iprop(St m true c l ∗ P) ⊢ WP c j Q) :
    iprop(St m true c (opt g (.send (.ms r 0) (dn c) (.mr r 0)) ++ (opt g (.send (.ms r 1) (dn c) (.mr r 1)) ++ l)) ∗ P)
      ⊢ WP c (if h' : w = 1#1 then
          Prog.lift (.enqueueDma (aM.slice (rc o io) (fun _ => rfl)) (.remote (Dev.tc (n' h') : Thread nD τ) (mM.slice (rc o io) (fun _ => rfl)) (.dma s₀)) (.dma s₀') (View.wordExact_bits rfl) (View.wordExact_bits rfl) ⟨⟨rfl, Or.inl rfl⟩, trivial⟩) >>= fun _ =>
          Prog.lift (.enqueueDma (aM.slice (rc o' io') (fun _ => rfl)) (.remote (Dev.tc (n'' h') : Thread nD τ) (mM.slice (rc o' io') (fun _ => rfl)) (.dma s₁)) (.dma s₁') (View.wordExact_bits rfl) (View.wordExact_bits rfl) ⟨⟨rfl, Or.inl rfl⟩, trivial⟩) >>= fun _ => j
        else j) Q := by
  subst ho ho'
  by_cases hg' : g = true
  · rw [dif_pos (hw.mpr hg')]; subst hg'
    have hz := hg rfl
    have hone : ∀ h, (dest m c (dn c) (.mr r h) ⊢ iprop((∃ f, mpt (dn c) (bB mM r h) fullShare f) ∗ mpt c (aB r h) fullShare.right (ACC m c)))
        ∧ (mpt c (aB r h) fullShare.right (ACC m c) ⊢ dmaPay m c (.ms r h))
        ∧ (mpt (dn c) (bB mM r h) fullShare (MM m c) ⊢ dmaPay m (dn c) (.mr r h)) := fun h =>
      ⟨Entails.of_eq (by rw [dest_mr, if_pos hz]), Entails.of_eq ((dmaPay_ms m c r h).trans (if_pos hz)).symm,
        Entails.of_eq (by show _ = mpt (dn c) (mB r h) fullShare (MM m (up (dn c))); rw [up_dn c (by omega)])⟩
    have hv : ACC m c = MM m c := (MM_three m c hz).symm
    refine inj_one (B := mM) (r := r) (h := 0) (ks := .ms r 0) (kr := .mr r 0) (n := dn c) (hn _) h₀ h₀' (mB_credit r 0) rfl
      (MM m c) (hone 0).1 (by rw [hv]; rfl) (hone 0).2.1 (hone 0).2.2 ?_
    exact inj_one (B := mM) (r := r) (h := 1) (ks := .ms r 1) (kr := .mr r 1) (n := dn c) (hn' _) h₁ h₁' (mB_credit r 1) rfl
      (MM m c) (hone 1).1 (by rw [hv]; rfl) (hone 1).2.1 (hone 1).2.2 hj
  · rw [dif_neg (fun h => hg' (hw.mp h))]
    rw [Bool.not_eq_true] at hg'; subst hg'
    exact hj

/-- Reading a row of the device's own product. -/
theorem ld_acc {o : Fin 2 → ℕ} {io : ∀ a, o a + S128x512.size a ≤ S512x512.size a}
    {kk : FVec F S128x512 .f32 → Prog (TpuEff nD τ sig (Elt F) Λ₀ .tc) α}
    (hj : iprop(St m true c l ∗ P) ⊢ WP c (kk (rowOf (zf c) (ACC m c))) Q)
    (ho : o = ![128 * (zf c).val, 0] := by clear * -; revert c; decide +kernel)
    {hl : (aM : Memref sig .tc .vmem S512x512 .f32).view.LoadsAt (Rect.unit (s := S512x512) o S128x512.size io).toLoadRect} :
    iprop(St m true c l ∗ P)
      ⊢ WP c (Prog.lift (.load aM (Rect.unit (s := S512x512) o S128x512.size io).toLoadRect hl) >>= fun (v : Vec F S128x512 .f32) => kk v) Q := by
  subst ho
  unfold St
  iintro ⟨⟨%K, %T, %S, %Kp, %W, %hrun, #HR, #HL, HO, Hl, HT, HS, HKp, Ha⟩, HP⟩
  ihave Ha := (Entails.of_eq (show accL m true c = mpt c aM fullShare.left (ACC m c) from rfl)) $$ Ha
  iapply (wp_load_rect 𝒱₀ (c : Thread nD τ) none Set.univ (m := aM) (r := row (zf c)) (S := aM.view.set) (by
    rw [View.set_whole]; exact Finset.subset_univ _)) $$ Ha
  iintro Ha
  iapply hj
  isplitr [HP]
  · iapply (St_mk (m := m) (b := true) hrun)
    isplitr; · iexact HR
    isplitr; · iexact HL
    isplitl [HO]; · iexact HO
    isplitl [Hl]; · iexact Hl
    isplitl [HT]; · iexact HT
    isplitl [HS]; · iexact HS
    isplitl [HKp]; · iexact HKp
    iapply (Entails.of_eq (show mpt c aM fullShare.left (ACC m c) = accL m true c from rfl)); iexact Ha
  · iexact HP

end Cert.KProof
-- ==== Proof.Mem.lean ====
/-
  The device's memory cut in the pieces the protocol moves, and put together again: what it offers its neighbours before
  the barrier, what it is offered at the barrier, and how the state takes that in.
-/
module

public import proofs.«01_k».proof.Proof.Guard

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ}
variable {c : Dev nD} {l : List Ev}

/-! ## Cutting buffers -/

theorem blk_disjoint (p p' : Fin 4 × Fin 2) (h : p ≠ p') : Disjoint (blk p.1 p.2).set (blk p'.1 p'.2).set := by
  by_cases h1 : p.1 = p'.1
  · have h2 : p.2 ≠ p'.2 := fun e => h (Prod.ext h1 e)
    refine Rect.disjoint_of_separated _ _ 1 ?_
    revert h2; generalize p.2 = a; generalize p'.2 = b; generalize p.1 = x; generalize p'.1 = y
    revert a b x y; decide
  · refine Rect.disjoint_of_separated _ _ 0 ?_
    revert h1; generalize p.2 = a; generalize p'.2 = b; generalize p.1 = x; generalize p'.1 = y
    revert a b x y; decide

theorem blk_cover (i : S512x512.Idx) : ∃ p : Fin 4 × Fin 2, i ∈ (blk p.1 p.2).set := by
  have h0 : (i 0).val < 512 := (i 0).isLt
  have h1 : (i 1).val < 512 := (i 1).isLt
  refine ⟨(⟨(i 0).val / 128, by omega⟩, ⟨(i 1).val / 256, by omega⟩), Rect.mem_set_unit.mpr fun a => ?_⟩
  fin_cases a
  · show 128 * ((i 0).val / 128) ≤ (i 0).val ∧ (i 0).val < 128 * ((i 0).val / 128) + 128; omega
  · show 256 * ((i 1).val / 256) ≤ (i 1).val ∧ (i 1).val < 256 * ((i 1).val / 256) + 256; omega

theorem col_disjoint (j j' : Fin 4) (h : j ≠ j') : Disjoint (col j).set (col j').set := by
  refine Rect.disjoint_of_separated _ _ 1 ?_
  revert j j'; decide

theorem col_cover (i : S128x2048.Idx) : ∃ j : Fin 4, i ∈ (col j).set := by
  have h0 : (i 0).val < 128 := (i 0).isLt
  have h1 : (i 1).val < 2048 := (i 1).isLt
  refine ⟨⟨(i 1).val / 512, by omega⟩, Rect.mem_set_unit.mpr fun a => ?_⟩
  fin_cases a
  · show 0 ≤ (i 0).val ∧ (i 0).val < 0 + 128; omega
  · show 512 * ((i 1).val / 512) ≤ (i 1).val ∧ (i 1).val < 512 * ((i 1).val / 512) + 512; omega

theorem sq_apart (B : Memref sig .tc .vmem S512x512 .f32) (p p' : Fin 4 × Fin 2) (h : p ≠ p') :
    Disjoint (bB B p.1 p.2).view.set (bB B p'.1 p'.2).view.set :=
  View.disjoint_slice (v := B.view) (blk_disjoint p p' h)

/-- The elements of a square buffer's half rows, and of the result's column blocks. -/
def sqI (B : Memref sig .tc .vmem S512x512 .f32) (c : Dev nD) (p : Fin 4 × Fin 2) : Finset (Idx (B.view.loc (c : Thread nD τ))) := (bB B p.1 p.2).view.set
def outI (c : Dev nD) (j : Fin 4) : Finset (Idx (oA.view.loc (c : Thread nD τ))) := (oB j).view.set

theorem sqI_apart (B : Memref sig .tc .vmem S512x512 .f32) (c : Dev nD) (p p' : Fin 4 × Fin 2) (h : p ≠ p') : Disjoint (sqI B c p) (sqI B c p') :=
  sq_apart B p p' h
theorem sqI_all (B : Memref sig .tc .vmem S512x512 .f32) (c : Dev nD) :
    (Finset.univ : Finset (Fin 4 × Fin 2)).biUnion (sqI B c) = (B.view.set : Finset (Idx (B.view.loc (c : Thread nD τ)))) := by
  ext i
  rw [Finset.mem_biUnion]
  constructor
  · rintro ⟨p, -, hp⟩; exact View.set_slice_subset (v := B.view) _ hp
  · intro hi
    obtain ⟨x, -, rfl⟩ := Finset.mem_map.mp hi
    obtain ⟨p, hp⟩ := blk_cover x
    refine ⟨p, Finset.mem_univ _, ?_⟩
    show B.view.emb x ∈ (B.view.slice (blk p.1 p.2)).set
    rw [View.set_slice]; exact Finset.mem_map_of_mem _ hp
theorem outI_apart (c : Dev nD) (p p' : Fin 4) (h : p ≠ p') : Disjoint (outI c p) (outI c p') :=
  View.disjoint_slice (v := oA.view) (col_disjoint p p' h)
theorem outI_all (c : Dev nD) :
    (Finset.univ : Finset (Fin 4)).biUnion (outI c) = (oA.view.set : Finset (Idx (oA.view.loc (c : Thread nD τ)))) := by
  ext i
  rw [Finset.mem_biUnion]
  constructor
  · rintro ⟨p, -, hp⟩; exact View.set_slice_subset (v := oA.view) _ hp
  · intro hi
    obtain ⟨x, -, rfl⟩ := Finset.mem_map.mp hi
    obtain ⟨p, hp⟩ := col_cover x
    refine ⟨p, Finset.mem_univ _, ?_⟩
    show oA.view.emb x ∈ (oA.view.slice (col p)).set
    rw [View.set_slice]; exact Finset.mem_map_of_mem _ hp

/-- A square buffer is its eight half rows; -/
theorem sq_split (B : Memref sig .tc .vmem S512x512 .f32) (c : Dev nD) (q : PosShare TreeShare) (f : Buf (Elt F) (B.view.loc (c : Thread nD τ))) :
    mpt c B q f = bigSep Finset.univ fun p : Fin 4 × Fin 2 => mpt c (bB B p.1 p.2) q f :=
  Ring.pointsTo_sub_blocks (ℓ := B.view.loc (c : Thread nD τ)) (sqI B c) (sqI_apart B c) B.view.set (sqI_all B c) f

/-- and half rows at contents of their own make the buffer at some contents. -/
theorem sq_join (B : Memref sig .tc .vmem S512x512 .f32) (c : Dev nD) (f₀ : Buf (Elt F) (B.view.loc (c : Thread nD τ))) :
    bigSep Finset.univ (fun p : Fin 4 × Fin 2 => iprop(∃ f, mpt c (bB B p.1 p.2) fullShare f)) ⊢ (iprop(∃ f, mpt c B fullShare f) : sProp 𝕄) :=
  Ring.pointsTo_sub_blocks_join_exists (ℓ := B.view.loc (c : Thread nD τ)) (sqI B c) (sqI_apart B c) B.view.set (sqI_all B c) f₀

/-- The result is its four column blocks. -/
theorem out_split (c : Dev nD) (f : Buf (Elt F) (oA.view.loc (c : Thread nD τ))) :
    mpt c oA fullShare f = bigSep Finset.univ fun j : Fin 4 => mpt c (oB j) fullShare f :=
  Ring.pointsTo_sub_blocks (ℓ := oA.view.loc (c : Thread nD τ)) (outI c) (outI_apart c) oA.view.set (outI_all c) f

/-- A family over the column blocks, own block first, then the three partners'. -/
theorem four_cols (c : Dev nD) (Φ : Fin 4 → sProp 𝕄) :
    bigSep Finset.univ Φ = iprop(Φ (qf c) ∗ Φ (qf (peer c 0)) ∗ Φ (qf (peer c 1)) ∗ Φ (qf (peer c 2))) := by
  rw [bigSep_univ_eq_bigSepL [qf c, qf (peer c 0), qf (peer c 1), qf (peer c 2)] (by revert c; decide) (by revert c; decide)]
  rfl

/-! ## Choosing among the half rows -/

theorem pieces_mono {I : Type} {s : Finset I} {Φ Ψ : I → sProp 𝕄} (h : ∀ i ∈ s, Φ i ⊢ Ψ i) : bigSep s Φ ⊢ bigSep s Ψ := bigSep_mono h
theorem pieces_emp {I : Type} {s : Finset I} {Ψ : I → sProp 𝕄} (h : ∀ i ∈ s, iprop(emp) ⊢ Ψ i) {A : sProp 𝕄} : A ⊢ bigSep s Ψ := by
  refine BIBase.Entails.trans ?_ (pieces_mono (Φ := fun _ => iprop(emp)) h)
  refine BIBase.Entails.trans ?_ (Entails.of_eq (bigSep_emp_const s).symm)
  exact (show A ⊢ iprop(emp) by iintro -; iempintro)
theorem drop_all {A : sProp 𝕄} : A ⊢ iprop(emp) := by iintro -; iempintro

/-- The half rows of a condition. -/
abbrev on (g : Fin 4 × Fin 2 → Prop) [DecidablePred g] (Φ : Fin 4 × Fin 2 → sProp 𝕄) : sProp 𝕄 :=
  bigSep Finset.univ fun p => if g p then Φ p else iprop(emp)

theorem on_split (g : Fin 4 × Fin 2 → Prop) [DecidablePred g] (Φ : Fin 4 × Fin 2 → sProp 𝕄) :
    bigSep Finset.univ Φ = iprop(on g Φ ∗ on (fun p => ¬ g p) Φ) := by
  rw [← bigSep_sep' Finset.univ]
  refine bigSep_congr fun p _ => ?_
  by_cases h : g p
  · rw [if_pos h, if_neg (not_not.mpr h)]; exact (equiv_iff.mp BI.sep_emp).symm
  · rw [if_neg h, if_pos h]; exact (equiv_iff.mp BI.emp_sep).symm

/-- Two families of half rows, one entailing the other piece by piece. -/
theorem on_mono {g g' : Fin 4 × Fin 2 → Prop} [DecidablePred g] [DecidablePred g'] {Φ Ψ : Fin 4 × Fin 2 → sProp 𝕄}
    (hg : ∀ p, g' p → g p) (h : ∀ p, g' p → (Φ p ⊢ Ψ p)) : on g Φ ⊢ on g' Ψ := by
  refine pieces_mono fun p _ => ?_
  beta_reduce
  by_cases hp : g' p
  · rw [if_pos hp, if_pos (hg p hp)]; exact h p hp
  · simp only [if_neg hp]; exact drop_all (F := F)

theorem on_list (g : Fin 4 × Fin 2 → Prop) [DecidablePred g] (Φ : Fin 4 × Fin 2 → sProp 𝕄) :
    on g Φ = bigSepL (rh.filter g) Φ := by
  unfold on
  refine (bigSep_filter Finset.univ g Φ).symm.trans ?_
  refine bigSep_eq_bigSepL_of_eq (M := 𝕄) _ ?_ ((by decide : rh.Nodup).filter _) Φ
  rw [List.toFinset_filter, show rh.toFinset = Finset.univ by decide]
  ext p; simp

/-- The half rows of the plus buffer that the previous device fills, and of the minus buffer that the next one fills. -/
abbrev gP (c : Dev nD) (p : Fin 4 × Fin 2) : Prop := 0 < zz c ∧ zz c ≤ p.1.val
abbrev gM (c : Dev nD) (p : Fin 4 × Fin 2) : Prop := zz c < 3 ∧ p.1.val ≤ zz c
/-- Half a row of a square buffer at some contents. -/
abbrev anyB (c : Dev nD) (B : Memref sig .tc .vmem S512x512 .f32) (p : Fin 4 × Fin 2) : sProp 𝕄 := iprop(∃ f, mpt (F := F) c (bB B p.1 p.2) fullShare f)

theorem any_split (B : Memref sig .tc .vmem S512x512 .f32) (c : Dev nD) (f : Buf (Elt F) (B.view.loc (c : Thread nD τ))) :
    mpt c B fullShare f ⊢ bigSep Finset.univ (anyB (F := F) c B) := by
  rw [sq_split]
  refine pieces_mono fun p _ => ?_
  beta_reduce
  iintro H; iexists f; iexact H

/-- What the device offers the previous one, and what it keeps of the plus buffer. -/
theorem offer_plus (c : Dev nD) (f : Buf (Elt F) (pM.view.loc (c : Thread nD τ))) :
    mpt c pM fullShare f ⊢ iprop((if 0 < zz c then barPay (F := F) (dn c) 4 else iprop(emp)) ∗ on (fun p => ¬ gP c p) (anyB (F := F) c pM)) := by
  refine (any_split pM c f).trans ?_
  rw [on_split (gP c) (anyB (F := F) c pM)]
  refine sep_mono_left ?_
  by_cases hz : 0 < zz c
  · rw [if_pos hz]
    show _ ⊢ bigSep Finset.univ fun p : Fin 4 × Fin 2 => offerP (dn c) p.1 p.2
    refine pieces_mono fun p _ => ?_
    beta_reduce
    unfold offerP
    have := zz_dn c hz
    by_cases hp : zz (dn c) < p.1.val
    · rw [if_pos hp, if_pos ⟨hz, by omega⟩, up_dn c hz]
    · simp only [if_neg hp]; exact drop_all (F := F)
  · rw [if_neg hz]; exact drop_all (F := F)

/-- What the device offers the next one, and what it keeps of the minus buffer. -/
theorem offer_minus (c : Dev nD) (f : Buf (Elt F) (mM.view.loc (c : Thread nD τ))) :
    mpt c mM fullShare f ⊢ iprop((if zz c < 3 then barPay (F := F) (up c) 3 else iprop(emp)) ∗ on (fun p => ¬ gM c p) (anyB (F := F) c mM)) := by
  refine (any_split mM c f).trans ?_
  rw [on_split (gM c) (anyB (F := F) c mM)]
  refine sep_mono_left ?_
  by_cases hz : zz c < 3
  · rw [if_pos hz]
    show _ ⊢ bigSep Finset.univ fun p : Fin 4 × Fin 2 => offerM (up c) p.1 p.2
    refine pieces_mono fun p _ => ?_
    beta_reduce
    unfold offerM
    have := zz_up c hz
    by_cases hp : p.1.val < zz (up c)
    · rw [if_pos hp, if_pos ⟨hz, by omega⟩, dn_up c hz]
    · simp only [if_neg hp]; exact drop_all (F := F)
  · rw [if_neg hz]; exact drop_all (F := F)

/-- What the device offers the three partners: their column blocks of its result. -/
theorem offer_out (c : Dev nD) (f : Buf (Elt F) (oA.view.loc (c : Thread nD τ))) :
    mpt c oA fullShare f ⊢ iprop((∃ f, mpt (F := F) c (oB (qf c)) fullShare f) ∗ barPay (F := F) (peer c 0) 0 ∗ barPay (F := F) (peer c 1) 1 ∗ barPay (F := F) (peer c 2) 2) := by
  rw [out_split, four_cols c]
  have h : ∀ i, mpt c (oB (qf (peer c i))) fullShare f ⊢ offerO (F := F) (peer c i) i := fun i => by
    unfold offerO; rw [peer_peer]; iintro H; iexists f; iexact H
  iintro ⟨H, H0, H1, H2⟩
  isplitl [H]; · iexists f; iexact H
  isplitl [H0]; · iapply (show _ ⊢ barPay (F := F) (peer c 0) 0 from h 0); iexact H0
  isplitl [H1]; · iapply (show _ ⊢ barPay (F := F) (peer c 1) 1 from h 1); iexact H1
  iapply (show _ ⊢ barPay (F := F) (peer c 2) 2 from h 2); iexact H2

/-! ## What the barrier brings -/

/-- The half rows of its own product the device sends from there: at the ends of the chain. -/
abbrev gA (c : Dev nD) (p : Fin 4 × Fin 2) : Prop := (zz c = 0 ∧ 0 < p.1.val) ∨ (zz c = 3 ∧ p.1.val < 3)
abbrev aR (m : (ℓ : Loc nD τ sig) → Buf (Elt F) ℓ) (c : Dev nD) (p : Fin 4 × Fin 2) : sProp 𝕄 := mpt c (aB p.1 p.2) fullShare.right (ACC m c)

/-- The landings of all the device's sends. -/
def pool (m : (ℓ : Loc nD τ sig) → Buf (Elt F) ℓ) (c : Dev nD) : sProp 𝕄 :=
  iprop(on (fun p => zz c < p.1.val) (fun p => dest m c (up c) (.pr p.1 p.2)) ∗ on (fun p => p.1.val < zz c) (fun p => dest m c (dn c) (.mr p.1 p.2))
    ∗ bigSep Finset.univ fun i : Fin 3 => dest m c (peer c i) (.gr i))

theorem acc_cut (m : (ℓ : Loc nD τ sig) → Buf (Elt F) ℓ) (c : Dev nD) : mpt c aM fullShare (ACC m c)
    ⊢ iprop(accL m true c ∗ on (gA c) (aR m c) ∗ on (fun p => ¬ gA c p) (aR m c)) := by
  refine ((pointsTo_share (PosShare.mem_left_op_right fullShare)).1).trans (sep_mono_right ?_)
  exact Entails.of_eq ((sq_split aM c fullShare.right (ACC m c)).trans (on_split (gA c) (aR m c)))

/-- The barrier's payload and the pieces of the own product make up the landings. -/
theorem pool_intro (m : (ℓ : Loc nD τ sig) → Buf (Elt F) ℓ) (c : Dev nD) :
    iprop(bigSep (dut c none) (barPay (F := F) c) ∗ on (gA c) (aR m c)) ⊢ pool m c := by
  have hd : bigSep (dut c none) (barPay (F := F) c) = bigSep (Finset.univ : Finset (Fin 5)) fun d =>
      if ((d = 3 → 0 < zz c) ∧ (d = 4 → zz c < 3)) then barPay (F := F) c d else iprop(emp) := bigSep_filter _ _ _
  have hu : ∀ Φ : Fin 5 → sProp 𝕄, bigSep Finset.univ Φ = iprop(Φ 0 ∗ Φ 1 ∗ Φ 2 ∗ Φ 3 ∗ Φ 4) := fun Φ => by
    rw [bigSep_univ_eq_bigSepL [0, 1, 2, 3, 4] (by decide) (by decide)]; rfl
  have ha : on (gA c) (aR m c) ⊢ iprop(on (fun p => zz c = 0 ∧ 0 < p.1.val) (aR m c) ∗ on (fun p => zz c = 3 ∧ p.1.val < 3) (aR m c)) := by
    rw [← bigSep_sep' Finset.univ]
    refine pieces_mono fun p _ => ?_
    beta_reduce
    by_cases h0 : zz c = 0 ∧ 0 < p.1.val
    · rw [if_pos (Or.inl h0), if_pos h0, if_neg (by omega)]; iintro H; isplitl; · iexact H
      iempintro
    · rw [if_neg h0]
      by_cases h3 : zz c = 3 ∧ p.1.val < 3
      · rw [if_pos (Or.inr h3), if_pos h3]; iintro H; isplitr; · iempintro
        iexact H
      · rw [if_neg (by tauto), if_neg h3]; iintro -; isplitr <;> iempintro
  have h3 : (zz c < 4) := Nat.mod_lt _ (by decide)
  have h012 : ∀ i : Fin 3, offerO (F := F) c i ⊢ dest m c (peer c i) (.gr i) := fun i => by
    unfold offerO; exact Entails.of_eq rfl
  have hb : ∀ d : Fin 5, d ≠ 3 → d ≠ 4 → ((if ((d = 3 → 0 < zz c) ∧ (d = 4 → zz c < 3)) then barPay (F := F) c d else iprop(emp)) ⊢ barPay (F := F) c d) :=
    fun d h3 h4 => by rw [if_pos ⟨fun h => absurd h h3, fun h => absurd h h4⟩]
  have hm : iprop((if ((3 : Fin 5) = 3 → 0 < zz c) ∧ ((3 : Fin 5) = 4 → zz c < 3) then barPay (F := F) c 3 else iprop(emp))
      ∗ on (fun p => zz c = 3 ∧ p.1.val < 3) (aR m c)) ⊢ on (fun p => p.1.val < zz c) (fun p => dest m c (dn c) (.mr p.1 p.2)) := by
    by_cases hz : 0 < zz c
    · rw [if_pos ⟨fun _ => hz, fun h => absurd h (by decide)⟩]
      show iprop((bigSep Finset.univ fun p : Fin 4 × Fin 2 => offerM c p.1 p.2) ∗ _) ⊢ _
      rw [← bigSep_sep' Finset.univ]
      refine pieces_mono fun p _ => ?_
      beta_reduce
      unfold offerM
      by_cases hp : p.1.val < zz c
      · rw [if_pos hp, if_pos hp, dest_mr]
        by_cases h : zz c = 3
        · rw [if_pos ⟨h, by omega⟩, if_pos h]
        · rw [if_neg (by tauto), if_neg h]
      · simp only [if_neg hp]; exact drop_all (F := F)
    · refine pieces_emp fun p _ => ?_
      rw [if_neg (by omega)]
  have hp : iprop((if ((4 : Fin 5) = 3 → 0 < zz c) ∧ ((4 : Fin 5) = 4 → zz c < 3) then barPay (F := F) c 4 else iprop(emp))
      ∗ on (fun p => zz c = 0 ∧ 0 < p.1.val) (aR m c)) ⊢ on (fun p => zz c < p.1.val) (fun p => dest m c (up c) (.pr p.1 p.2)) := by
    by_cases hz : zz c < 3
    · rw [if_pos ⟨fun h => absurd h (by decide), fun _ => hz⟩]
      show iprop((bigSep Finset.univ fun p : Fin 4 × Fin 2 => offerP c p.1 p.2) ∗ _) ⊢ _
      rw [← bigSep_sep' Finset.univ]
      refine pieces_mono fun p _ => ?_
      beta_reduce
      unfold offerP
      by_cases hp : zz c < p.1.val
      · rw [if_pos hp, if_pos hp, dest_pr]
        by_cases h : zz c = 0
        · rw [if_pos ⟨h, by omega⟩, if_pos h]
        · rw [if_neg (by tauto), if_neg h]
      · simp only [if_neg hp]; exact drop_all (F := F)
    · refine pieces_emp fun p _ => ?_
      rw [if_neg (by have := p.1.isLt; omega)]
  rw [hd, hu]
  unfold pool
  iintro ⟨⟨H0, H1, H2, H3, H4⟩, Ha⟩
  ihave Ha := ha $$ Ha
  icases Ha with ⟨Ha, Hb⟩
  isplitl [H4 Ha]
  · iapply hp; isplitl [H4] <;> iassumption
  isplitl [H3 Hb]
  · iapply hm; isplitl [H3] <;> iassumption
  iapply (Entails.of_eq (show iprop(dest m c (peer c 0) (.gr 0) ∗ dest m c (peer c 1) (.gr 1) ∗ dest m c (peer c 2) (.gr 2))
    = bigSep Finset.univ (fun i : Fin 3 => dest m c (peer c i) (.gr i)) from
    (bigSep_univ_eq_bigSepL [(0 : Fin 3), 1, 2] (by decide) (by decide) (fun i => dest m c (peer c i) (.gr i))).symm))
  isplitl [H0]
  · iapply (h012 0); iapply (show barPay (F := F) c 0 ⊢ offerO c 0 from Entails.of_eq rfl); iapply (hb 0 (by decide) (by decide)); iexact H0
  isplitl [H1]
  · iapply (h012 1); iapply (show barPay (F := F) c 1 ⊢ offerO c 1 from Entails.of_eq rfl); iapply (hb 1 (by decide) (by decide)); iexact H1
  · iapply (h012 2); iapply (show barPay (F := F) c 2 ⊢ offerO c 2 from Entails.of_eq rfl); iapply (hb 2 (by decide) (by decide)); iexact H2

/-! ## Taking the landings in -/

/-- What the barrier adds to a step's part of the state. -/
def extra (m : (ℓ : Loc nD τ sig) → Buf (Elt F) ℓ) (c : Dev nD) : Ev → sProp 𝕄
  | .send _ n kr => dest m c n kr
  | _ => iprop(emp)

theorem res_true (e : Ev) : iprop(res m false c e ∗ extra m c e) ⊢ res m true c e := by
  cases e with
  | send ks n kr =>
    show iprop((dutyTok ER (cell c (some ks)) 0 0 ∗ dutyTok ER (cell n (some kr)) 0 0 ∗ emp) ∗ dest m c n kr)
      ⊢ iprop(dutyTok ER (cell c (some ks)) 0 0 ∗ dutyTok ER (cell n (some kr)) 0 0 ∗ dest m c n kr)
    iintro ⟨⟨H1, H2, -⟩, H3⟩
    isplitl [H1]; · iexact H1
    isplitl [H2] <;> iassumption
  | copy k => exact (sep_emp (PROP := sProp 𝕄)).1
  | sig n d => exact (sep_emp (PROP := sProp 𝕄)).1
  | wait k => exact (sep_emp (PROP := sProp 𝕄)).1
  | take k => exact (sep_emp (PROP := sProp 𝕄)).1

theorem bigSepL_zip {I : Type} {Φ Ψ Ξ : I → sProp 𝕄} (h : ∀ i, iprop(Φ i ∗ Ψ i) ⊢ Ξ i) (l : List I) :
    iprop(bigSepL l Φ ∗ bigSepL l Ψ) ⊢ bigSepL l Ξ := by
  induction l with
  | nil => exact (sep_emp (PROP := sProp 𝕄)).1
  | cons i l ih =>
    rw [bigSepL_cons', bigSepL_cons', bigSepL_cons']
    iintro ⟨⟨H1, H2⟩, H3, H4⟩
    isplitl [H1 H3]
    · iapply (h i); isplitl [H1] <;> iassumption
    · iapply ih; isplitl [H2] <;> iassumption

/-- The sends among some steps: where they land. -/
def sends : List Ev → List (Dev nD × Dk)
  | [] => []
  | .send _ n kr :: l => (n, kr) :: sends l
  | .copy _ :: l => sends l
  | .sig _ _ :: l => sends l
  | .wait _ :: l => sends l
  | .take _ :: l => sends l

theorem sends_extra (l : List Ev) : bigSepL (sends l) (fun x => dest m c x.1 x.2) ⊢ bigSepL l (extra m c) := by
  have hs : ∀ {e : Ev} {l : List Ev}, extra m c e = iprop(emp) → (bigSepL (sends l) (fun x => dest m c x.1 x.2) ⊢ bigSepL l (extra m c))
      → (bigSepL (sends l) (fun x => dest m c x.1 x.2) ⊢ bigSepL (e :: l) (extra m c)) := fun {e l} he ih => by
    rw [bigSepL_cons', he]; exact ih.trans (emp_sep (PROP := sProp 𝕄)).2
  induction l with
  | nil => exact Entails.refl _
  | cons e l ih =>
    cases e with
    | send ks n kr =>
      show bigSepL ((n, kr) :: sends l) _ ⊢ _
      rw [bigSepL_cons', bigSepL_cons']
      exact sep_mono_right ih
    | copy k => exact hs rfl ih
    | sig n d => exact hs rfl ih
    | wait k => exact hs rfl ih
    | take k => exact hs rfl ih

/-- Where the device's sends land. -/
def need (c : Dev nD) : List (Dev nD × Dk) :=
  ((rh.filter fun p => zz c < p.1.val).map fun p => (up c, Dk.pr p.1 p.2)) ++ (((rh.filter fun p => p.1.val < zz c).map fun p => (dn c, Dk.mr p.1 p.2))
    ++ ([(0 : Fin 3), 1, 2].map fun i => (peer c i, Dk.gr i)))

set_option maxRecDepth 20000 in
theorem need_perm (c : Dev nD) : (need c).Perm (sends (tail c)) := by revert c; decide +kernel
theorem need_nodup (c : Dev nD) : (need c).Nodup := by revert c; decide +kernel

theorem pool_need : pool m c ⊢ bigSepL (need c) (fun x => dest m c x.1 x.2) := by
  unfold pool need
  rw [bigSepL_append, bigSepL_append, bigSepL_map, bigSepL_map, bigSepL_map, on_list, on_list,
    bigSep_univ_eq_bigSepL [(0 : Fin 3), 1, 2] (by decide) (by decide)]

theorem bigSepL_reorder {I : Type} [DecidableEq I] {l l' : List I} (h : l.Perm l') (hn : l.Nodup) (Φ : I → sProp 𝕄) : bigSepL l Φ = bigSepL l' Φ := by
  rw [← bigSep_eq_bigSepL l hn Φ, ← bigSep_eq_bigSepL l' (h.nodup_iff.mp hn) Φ, List.toFinset_eq_of_perm _ _ h]

/-- After the barrier the state holds the landings of all its sends and the kept share of the own product. -/
theorem st_true : iprop(St m false c (tail c) ∗ pool m c ∗ accL m true c) ⊢ St m true c (tail c) := by
  unfold St
  iintro ⟨⟨%K, %T, %S, %Kp, %W, %hrun, #HR, #HL, HO, Hl, HT, HS, HKp, -⟩, Hp, Ha⟩
  ihave Hp := ((pool_need (m := m) (c := c)).trans ((Entails.of_eq (bigSepL_reorder (need_perm c) (need_nodup c) _)).trans (sends_extra (m := m) (c := c) (tail c)))) $$ Hp
  iexists K, T, S, Kp, W
  isplitr; · ipureintro; exact hrun
  isplitr; · iexact HR
  isplitr; · iexact HL
  isplitl [HO]; · iexact HO
  isplitl [Hl Hp]
  · iapply (bigSepL_zip (fun e => res_true (m := m) (c := c) e) (tail c)); isplitl [Hl] <;> iassumption
  isplitl [HT]; · iexact HT
  isplitl [HS]; · iexact HS
  isplitl [HKp] <;> iassumption

/-- The barrier's payload and the own product, taken in: what stays is the part of the own product not sent from. -/
theorem st_barrier : iprop(St m false c (tail c) ∗ bigSep (dut c none) (barPay (F := F) c) ∗ mpt c aM fullShare (ACC m c))
    ⊢ iprop(St m true c (tail c) ∗ on (fun p => ¬ gA c p) (aR m c)) := by
  iintro ⟨H, Hb, Ha⟩
  ihave Ha := (acc_cut m c) $$ Ha
  icases Ha with ⟨Ha, Hs, Hr⟩
  isplitr [Hr]
  · iapply (st_true (m := m) (c := c))
    isplitl [H]; · iexact H
    isplitr [Ha]
    · iapply (pool_intro m c); isplitl [Hb] <;> iassumption
    · iexact Ha
  · iexact Hr

end Cert.KProof
-- ==== Proof.Hand.lean ====
/-
  The steps outside the two streams: the input copies, the barrier, the device's own product, the finished block and its
  exchange.
-/
module

public import proofs.«01_k».proof.Proof.Mem

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ}
variable {α : Type} {Q : α → sProp (MT nD τ sig Unit (Elt F) ℕ UU ℕ)} {P : sProp (MT nD τ sig Unit (Elt F) ℕ UU ℕ)}
  {b : Bool} {c : Dev nD} {l : List Ev}

/-! ## Loads and stores -/

/-- A load from memory at hand. -/
theorem ld_of {s : Shape} {M : Memref sig .tc .vmem s .f32} {r : Rect s} {hl : M.view.LoadsAt r.toLoadRect} {q : PosShare TreeShare}
    {f : Buf (Elt F) (M.view.loc (c : Thread nD τ))} {v : r.shape.Idx → Elt F .f32} (hv : (M.access r).read (Elt F) f = v)
    {S : Finset (Idx (M.view.loc (c : Thread nD τ)))} (hS : (M.access r).set ⊆ S)
    {kk : (r.shape.Idx → Elt F .f32) → Prog (TpuEff nD τ sig (Elt F) Λ₀ .tc) α} :
    (M.view.loc (c : Thread nD τ) ↦[S]{q} f : sProp 𝕄)
      ⊢ iprop(((M.view.loc (c : Thread nD τ) ↦[S]{q} f) -∗ WP c (kk v) Q) -∗ WP c (Prog.lift (.load M r.toLoadRect hl) >>= kk) Q) := by
  subst hv
  exact wp_load_rect 𝒱₀ (c : Thread nD τ) none Set.univ (m := M) (r := r) (S := S) hS

/-- A store to memory at hand. -/
theorem sto_of {s : Shape} {M : Memref sig .tc .vmem s .f32} {r : Rect s} {w : r.shape.Idx → Elt F .f32} {hx : (M.access r).Stores Finset.univ}
    {hm : (Finset.univ : Finset r.shape.Idx) = Finset.univ ∨ ∀ a, r.stride a = 1}
    {f f' : Buf (Elt F) (M.view.loc (c : Thread nD τ))} (hv : (M.access r).write (Elt F) f w Finset.univ = f')
    {S : Finset (Idx (M.view.loc (c : Thread nD τ)))} (hS : (M.access r).setOn Finset.univ ⊆ S)
    {kk : PUnit → Prog (TpuEff nD τ sig (Elt F) Λ₀ .tc) α} :
    (M.view.loc (c : Thread nD τ) ↦[S]{fullShare} f : sProp 𝕄)
      ⊢ iprop(((M.view.loc (c : Thread nD τ) ↦[S]{fullShare} f') -∗ WP c (kk ⟨⟩) Q)
        -∗ WP c (Prog.lift (.store M r w Finset.univ hx hm) >>= kk) Q) := by
  subst hv
  exact wp_store 𝒱₀ (c : Thread nD τ) none Set.univ (m := M) (r := r) (S := S) hS

theorem zero_off : (![0, 0] : Fin 2 → ℕ) = fun _ => 0 := by decide

/-! ## The barrier -/

/-- A barrier signal. -/
theorem sig_all {n n' : Dev nD} {d : Fin 5} (hn : n' = n := by clear * -; revert c; decide +kernel) {s : Sem sig} (hs : s = barS := by rfl)
    {kk : PUnit → Prog (TpuEff nD τ sig (Elt F) Λ₀ .tc) α} (hj : iprop(St m b c l ∗ P) ⊢ WP c (kk ⟨⟩) Q) :
    iprop(St m b c ([.sig n d] ++ l) ∗ barPay (F := F) n d ∗ P) ⊢ WP c (semSignalWord n' s 1#32 >>= kk) Q := by
  iintro ⟨H, Hb, HP⟩
  iapply (st_sig (m := m) (b := b) (c := c) (l := l) (d := d) hn hs) $$ [H Hb]
  · isplitl [H]; · iexact H
    iexact Hb
  iintro H
  iapply hj
  isplitl [H] <;> iassumption

/-- A barrier signal the devices of a condition give. -/
theorem sig_if {w : BitVec 1} {g : Prop} [Decidable g] (hw : w = 1#1 ↔ g := by clear * -; revert c; decide +kernel) {n : Dev nD} {n' : w = 1#1 → Dev nD} {d : Fin 5}
    (hn : ∀ h, n' h = n := by clear * -; revert c; decide +kernel) {s : Sem sig} (hs : s = barS := by rfl)
    {j : Prog (TpuEff nD τ sig (Elt F) Λ₀ .tc) α} (hj : iprop(St m b c l ∗ P) ⊢ WP c j Q) :
    iprop(St m b c (opt (decide g) (.sig n d) ++ l) ∗ (if g then barPay (F := F) n d else iprop(emp)) ∗ P)
      ⊢ WP c (if h : w = 1#1 then semSignalWord (n' h) s 1#32 >>= fun _ => j else j) Q := by
  by_cases hg : g
  · rw [dif_pos (hw.mpr hg), if_pos hg, decide_eq_true hg]
    exact sig_all (hn _) hs hj
  · rw [dif_neg (fun h => hg (hw.mp h)), if_neg hg, decide_eq_false hg]
    show iprop(St m b c l ∗ emp ∗ P) ⊢ _
    refine BIBase.Entails.trans ?_ hj
    iintro ⟨H, -, HP⟩
    isplitl [H] <;> iassumption

/-- A barrier wait the devices of a condition do. -/
theorem bar_if {w : BitVec 1} {g : Bool} (hw : w = 1#1 ↔ g = true) {nw : BitVec 32} {s : Sem sig} {n : ℕ}
    (hop : ∀ j : Prog (TpuEff nD τ sig (Elt F) Λ₀ .tc) α, (semWaitWord s nw >>= fun _ => j) = .op (.semWait barS n) fun _ => j)
    (hn : g = true → n = tot c none) {j : Prog (TpuEff nD τ sig (Elt F) Λ₀ .tc) α}
    (hj : iprop(St m b c l ∗ (if g = true then bigSep (dut c none) (barPay (F := F) c) else iprop(emp)) ∗ P) ⊢ WP c j Q) :
    iprop(St m b c (opt g (.wait none) ++ l) ∗ P) ⊢ WP c (if h : w = 1#1 then semWaitWord s nw >>= fun _ => j else j) Q := by
  by_cases hg : g = true
  · rw [dif_pos (hw.mpr hg), hop]; subst hg
    show iprop(St m b c (.wait none :: l) ∗ P) ⊢ _
    rw [if_pos rfl] at hj
    iintro ⟨H, HP⟩
    iapply (st_wait (m := m) (b := b) (c := c) (l := l) (k := none) (n := n)
      (fun K => wpE_semWait_eq 𝒱₀ (c : Thread nD τ) none Set.univ K) (fun _ => hn rfl)) $$ H
    iintro ⟨H, Hy⟩
    iapply hj
    isplitl [H]; · iexact H
    isplitl [Hy]
    · iapply (Entails.of_eq (show yields m c none = bigSep (dut c none) (barPay (F := F) c) from rfl)); iexact Hy
    · iexact HP
  · rw [dif_neg (fun h => hg (hw.mp h))]
    rw [if_neg hg] at hj
    rw [Bool.not_eq_true] at hg; subst hg
    refine BIBase.Entails.trans ?_ hj
    show iprop(St m b c l ∗ P) ⊢ _
    iintro ⟨H, HP⟩
    isplitl [H]; · iexact H
    isplitr; · iempintro
    iexact HP

/-! ## The input copies -/

theorem x_copy {sem : DmaSem sig} {f : Buf (Elt F) (xM.view.loc (c : Thread nD τ))} (hs : sem = (Dk.inn 0).ix := by rfl)
    {kk : PUnit → Prog (TpuEff nD τ sig (Elt F) Λ₀ .tc) α} (hj : iprop(St m b c l ∗ P) ⊢ WP c (kk ⟨⟩) Q) :
    iprop(St m b c ([.copy (.inn 0)] ++ l) ∗ mpt c xA fullShare (m ((c : Thread nD τ).loc main_arg0)) ∗ mpt c xM fullShare f ∗ P)
      ⊢ WP c (Prog.lift (.enqueueDma xA (.here xM) (.dma sem) (Memref.isWhole_whole _).wordExact (Memref.isWhole_whole _).wordExact ⟨Or.inl rfl, trivial⟩) >>= kk) Q := by
  iintro ⟨H, Hx, Hv, HP⟩
  iapply (st_copy (m := m) (b := b) (c := c) (l := l) (src := xA) (dst := xM) (k := .inn 0) hs (q := fullShare)
    (fs := m ((c : Thread nD τ).loc main_arg0)) (fd := f) (by show xM.view.dmaCredit = Nw; unfold Nw; rfl) ?_) $$ [H Hx Hv]
  · refine Entails.of_eq ?_
    show _ = iprop(mpt c xM fullShare (X m c) ∗ mpt c xA fullShare (m ((c : Thread nD τ).loc main_arg0)))
    congr 1
    exact pointsTo_congr (write_eq_on xM.view f (X m c) _ (by rw [View.read_whole, View.read_whole]; rfl))
  · isplitl [H]; · iexact H
    isplitl [Hx] <;> iassumption
  iintro H
  iapply hj
  isplitl [H] <;> iassumption

theorem y_copy {sem : DmaSem sig} {f : Buf (Elt F) (dM.view.loc (c : Thread nD τ))} (hs : sem = (Dk.inn 1).ix := by rfl)
    {o : Fin 2 → ℕ} {io : ∀ a, o a + S512x512.size a ≤ S512x2048.size a} (ho : o = ![0, 512 * (qf c).val] := by clear * -; revert c; decide +kernel)
    {kk : PUnit → Prog (TpuEff nD τ sig (Elt F) Λ₀ .tc) α} (hj : iprop(St m b c l ∗ P) ⊢ WP c (kk ⟨⟩) Q) :
    iprop(St m b c ([.copy (.inn 1)] ++ l) ∗ mpt c (yB (qf c)) fullShare (m ((c : Thread nD τ).loc main_arg1)) ∗ mpt c dM fullShare f ∗ P)
      ⊢ WP c (Prog.lift (.enqueueDma (yA.slice (Rect.unit (s := S512x2048) o S512x512.size io) (fun _ => rfl)) (.here dM) (.dma sem) (View.wordExact_bits rfl)
          (Memref.isWhole_whole _).wordExact ⟨Or.inl rfl, trivial⟩) >>= kk) Q := by
  subst ho
  iintro ⟨H, Hx, Hv, HP⟩
  iapply (st_copy (m := m) (b := b) (c := c) (l := l) (src := yB (qf c)) (dst := dM) (k := .inn 1) hs (q := fullShare)
    (fs := m ((c : Thread nD τ).loc main_arg1)) (fd := f) dM_credit ?_) $$ [H Hx Hv]
  · refine Entails.of_eq ?_
    show _ = iprop(mpt c dM fullShare (DY m c) ∗ mpt c (yB (qf c)) fullShare (m ((c : Thread nD τ).loc main_arg1)))
    congr 1
    exact pointsTo_congr (write_eq_on dM.view f (DY m c) _ (by rw [View.read_whole]; rfl))
  · isplitl [H]; · iexact H
    isplitl [Hx] <;> iassumption
  iintro H
  iapply hj
  isplitl [H] <;> iassumption

/-! ## The device's own row of the streams -/

theorem row_sets (r : Fin 4) : (row r).set = (blk r 0).set ∪ (blk r 1).set := by
  ext i
  have h1 : (i 1).val < 512 := (i 1).isLt
  rw [Finset.mem_union, Rect.mem_set_unit, Rect.mem_set_unit, Rect.mem_set_unit, Fin.forall_fin_two, Fin.forall_fin_two, Fin.forall_fin_two]
  show (128 * r.val ≤ (i 0).val ∧ (i 0).val < 128 * r.val + 128) ∧ (0 ≤ (i 1).val ∧ (i 1).val < 0 + 512)
    ↔ ((128 * r.val ≤ (i 0).val ∧ (i 0).val < 128 * r.val + 128) ∧ (256 * 0 ≤ (i 1).val ∧ (i 1).val < 256 * 0 + 256))
      ∨ ((128 * r.val ≤ (i 0).val ∧ (i 0).val < 128 * r.val + 128) ∧ (256 * 1 ≤ (i 1).val ∧ (i 1).val < 256 * 1 + 256))
  omega

/-- A row block of a square buffer. -/
abbrev rB (B : Memref sig .tc .vmem S512x512 .f32) (r : Fin 4) : Memref sig .tc .vmem S128x512 .f32 := B.slice (row r) (fun _ => rfl)

/-- A row block is its two halves. -/
theorem row_split (B : Memref sig .tc .vmem S512x512 .f32) (c : Dev nD) (r : Fin 4) (f : Buf (Elt F) (B.view.loc (c : Thread nD τ))) :
    mpt c (rB B r) fullShare f = iprop(mpt c (bB B r 0) fullShare f ∗ mpt c (bB B r 1) fullShare f) := by
  have hset : ((rB B r).view.set : Finset (Idx (B.view.loc (c : Thread nD τ)))) = sqI B c (r, 0) ∪ sqI B c (r, 1) := by
    show (B.view.slice (row r)).set = (B.view.slice (blk r 0)).set ∪ (B.view.slice (blk r 1)).set
    rw [View.set_slice, View.set_slice, View.set_slice, row_sets, Finset.map_union]
  show (B.view.loc (c : Thread nD τ) ↦[(rB B r).view.set]{fullShare} f : sProp 𝕄) = _
  rw [hset]
  have hu := pointsTo_union (Ix := Unit) (Val := Elt F) (Name := ℕ) (U := UU) (Lvl := ℕ) (f := f) (q := fullShare) (sqI_apart B c (r, 0) (r, 1) (by intro h; exact absurd (congrArg Prod.snd h) (by decide : (0 : Fin 2) ≠ 1)))
  exact equiv_iff.mp ⟨hu.1, hu.2⟩

/-- The received own row of the plus stream, and of the minus stream. -/
abbrev ownP (m : (ℓ : Loc nD τ sig) → Buf (Elt F) ℓ) (c : Dev nD) : sProp 𝕄 := if 0 < zz c then mpt c (rB pM (zf c)) fullShare (PP m (dn c)) else iprop(emp)
abbrev ownM (m : (ℓ : Loc nD τ sig) → Buf (Elt F) ℓ) (c : Dev nD) : sProp 𝕄 := if zz c < 3 then mpt c (rB mM (zf c)) fullShare (MM m (up c)) else iprop(emp)

theorem take_two {g : Prop} [Decidable g] {k k' : Dk} : St m b c (opt (decide g) (.take k) ++ (opt (decide g) (.take k') ++ l))
    ⊢ iprop(St m b c l ∗ (if g then iprop(dmaPay m c k ∗ dmaPay m c k') else iprop(emp))) := by
  by_cases hg : g
  · rw [if_pos hg, decide_eq_true hg]
    show St m b c (.take k :: (.take k' :: l)) ⊢ _
    iintro H
    ihave H := (st_take (m := m) (b := b) (c := c) (k := k)) $$ H
    icases H with ⟨H, H1⟩
    ihave H := (st_take (m := m) (b := b) (c := c) (k := k')) $$ H
    icases H with ⟨H, H2⟩
    isplitl [H]; · iexact H
    isplitl [H1] <;> iassumption
  · rw [if_neg hg, decide_eq_false hg]
    show St m b c l ⊢ _
    iintro H
    isplitl; · iexact H
    iempintro

theorem take_rows : St m b c (pT c 0 ++ (pT c 1 ++ (mT c 0 ++ (mT c 1 ++ l)))) ⊢ iprop(St m b c l ∗ ownP m c ∗ ownM m c) := by
  have hP : (if 0 < zz c then iprop(dmaPay m c (.pr (zf c) 0) ∗ dmaPay m c (.pr (zf c) 1)) else iprop(emp)) = ownP m c := by
    unfold ownP; rw [row_split]; rfl
  have hM : (if zz c < 3 then iprop(dmaPay m c (.mr (zf c) 0) ∗ dmaPay m c (.mr (zf c) 1)) else iprop(emp)) = ownM m c := by
    unfold ownM; rw [row_split]; rfl
  unfold pT mT
  iintro H
  ihave H := (take_two (m := m) (b := b) (c := c)) $$ H
  icases H with ⟨H, Hp⟩
  ihave H := (take_two (m := m) (b := b) (c := c)) $$ H
  icases H with ⟨H, Hm⟩
  isplitl [H]; · iexact H
  isplitl [Hp]
  · iapply (Entails.of_eq hP); iexact Hp
  · iapply (Entails.of_eq hM); iexact Hm

abbrev qR : Rect S128x512 := Rect.unit (s := S128x512) ![0, 0] S128x512.size inb_S128x512_S128x512_0_0

theorem q_read (f : FVec F S128x512 .f32) : (qM.access qR).read (Elt F) f = f := Memref.read_access_unit_zero (Elt F) cc0_scratch3 zero_off _ f
theorem q_write (f w : FVec F S128x512 .f32) : (qM.access qR).write (Elt F) f w Finset.univ = w :=
  Memref.write_access_unit_zero_univ (Elt F) cc0_scratch3 zero_off _ f w
theorem q_sub {S : Finset (Idx (qM.view.loc (c : Thread nD τ)))} (h : S = Finset.univ := by rw [View.set_whole]) : (qM.access qR).set ⊆ S := by
  subst h; exact Finset.subset_univ _

/-- The finished block starts from a value. -/
theorem q_put {f v w : FVec F S128x512 .f32} (hw : w = v) {kk : PUnit → Prog (TpuEff nD τ sig (Elt F) Λ₀ .tc) α}
    (hj : iprop(St m b c l ∗ mpt c qM fullShare v ∗ P) ⊢ WP c (kk ⟨⟩) Q) :
    iprop(St m b c l ∗ mpt c qM fullShare f ∗ P)
      ⊢ WP c (Prog.lift (.load qM qR.toLoadRect (View.loadsAt_vmem h_S128x512)) >>= fun (_ : Vec F S128x512 .f32) =>
          Prog.lift (.store qM qR w Finset.univ (View.stores_vmem_bits_univ h_S128x512 rfl) (.inl rfl)) >>= kk) Q := by
  iintro ⟨H, Hq, HP⟩
  iapply (ld_of (c := c) (q_read f) q_sub) $$ Hq
  iintro Hq
  iapply (sto_of (c := c) (M := qM) (r := qR) (f := f) (f' := v) (by rw [q_write, hw]) ((View.setOn_subset_set _ _).trans (q_sub (c := c)))) $$ Hq
  iintro Hq
  iapply hj
  isplitl [H]; · iexact H
  isplitl [Hq] <;> iassumption

/-- The finished block gathers a received row, on the devices of a condition. -/
theorem fold_if {B : Memref sig .tc .vmem S512x512 .f32} {G : Buf (Elt F) (B.view.loc (c : Thread nD τ))} {G' : FVec F S512x512 .f32}
    (hG : (B.access (row (zf c))).read (Elt F) G = rowOf (zf c) G')
    {w : BitVec 1} {g : Prop} [Decidable g] (hw : w = 1#1 ↔ g := by clear * -; revert c; decide +kernel)
    {o : Fin 2 → ℕ} {io : ∀ h : w = 1#1, ∀ a, o a + S128x512.size a ≤ S512x512.size a} (ho : o = ![128 * (zf c).val, 0] := by clear * -; revert c; decide +kernel)
    {pf : FVec F S128x512 .f32 → FVec F S128x512 .f32 → FVec F S128x512 .f32} (hp : ∀ a b, pf a b = addf a b := by intro a b; exact shapeCast_self _ _)
    {v : FVec F S128x512 .f32} {j : Prog (TpuEff nD τ sig (Elt F) Λ₀ .tc) α}
    (hj : iprop(St m b c l ∗ (if g then mpt c (rB B (zf c)) fullShare G else iprop(emp)) ∗ mpt c qM fullShare (if g then addf v (rowOf (zf c) G') else v) ∗ P) ⊢ WP c j Q) :
    iprop(St m b c l ∗ (if g then mpt c (rB B (zf c)) fullShare G else iprop(emp)) ∗ mpt c qM fullShare v ∗ P)
      ⊢ WP c (if h : w = 1#1 then
          Prog.lift (.load qM qR.toLoadRect (View.loadsAt_vmem h_S128x512)) >>= fun (v₁ : Vec F S128x512 .f32) =>
          Prog.lift (.load B (Rect.unit (s := S512x512) o S128x512.size (io h)).toLoadRect (View.loadsAt_vmem h_S128x512)) >>= fun (v₂ : Vec F S128x512 .f32) =>
          Prog.lift (.load qM qR.toLoadRect (View.loadsAt_vmem h_S128x512)) >>= fun (v₃ : Vec F S128x512 .f32) =>
          Prog.lift (.store qM qR (pf v₁ v₂) Finset.univ (View.stores_vmem_bits_univ h_S128x512 rfl) (.inl rfl)) >>= fun _ => j
        else j) Q := by
  subst ho
  by_cases hg : g
  · rw [dif_pos (hw.mpr hg)]
    rw [if_pos hg, if_pos hg] at hj
    rw [if_pos hg]
    iintro ⟨H, Hr, Hq, HP⟩
    iapply (ld_of (c := c) (q_read v) q_sub) $$ Hq
    iintro Hq
    iapply (ld_of (c := c) (M := B) (r := row (zf c)) hG (Finset.Subset.refl _)) $$ Hr
    iintro Hr
    iapply (ld_of (c := c) (q_read v) q_sub) $$ Hq
    iintro Hq
    iapply (sto_of (c := c) (M := qM) (r := qR) (f := v) (f' := addf v (rowOf (zf c) G')) (by rw [q_write, hp]) ((View.setOn_subset_set _ _).trans (q_sub (c := c)))) $$ Hq
    iintro Hq
    iapply hj
    isplitl [H]; · iexact H
    isplitl [Hr]; · iexact Hr
    isplitl [Hq] <;> iassumption
  · rw [dif_neg (fun h => hg (hw.mp h))]
    rw [if_neg hg, if_neg hg] at hj
    rw [if_neg hg]
    exact hj

/-! ## The exchange -/

/-- A column block of a device's result is the finished block of the device in charge of it. -/
theorem out_read (m : (ℓ : Loc nD τ sig) → Buf (Elt F) ℓ) (c n : Dev nD) (h : mate n (qf c) = c) : (oB (qf c)).view.read (Elt F) (OUT m n) = KProof.Q m c := by
  funext j
  show OUT m n ((col (qf c)).emb j) = KProof.Q m c j
  have h0 : (j 0).val < 128 := (j 0).isLt
  have h1 : (j 1).val < 512 := (j 1).isLt
  have e1 : ((col (qf c)).emb j 1).val = 512 * (qf c).val + (j 1).val := by rw [Rect.emb_apply]; show _ + 1 * _ = _; rw [one_mul]; rfl
  have e0 : ((col (qf c)).emb j 0).val = (j 0).val := by rw [Rect.emb_apply]; show 0 + 1 * _ = _; rw [one_mul, zero_add]
  unfold OUT
  have hq : (⟨((col (qf c)).emb j 1).val / 512, colq_lt _⟩ : Fin 4) = qf c := Fin.ext (by show _ / 512 = _; rw [e1]; omega)
  have hc : colj ((col (qf c)).emb j) = j := by
    funext a
    refine Fin.ext ?_
    fin_cases a
    · exact e0
    · show ((col (qf c)).emb j 1).val % 512 = (j 1).val
      rw [e1]; omega
  rw [hq, hc, h]

theorem mate_self (c : Dev nD) : mate c (qf c) = c := by revert c; decide
theorem mate_peer (c : Dev nD) (i : Fin 3) : mate (peer c i) (qf c) = c := by revert c i; decide

theorem o_copy {sem : DmaSem sig} {f : Buf (Elt F) (oA.view.loc (c : Thread nD τ))} (hs : sem = Dk.out.ix := by rfl)
    {o : Fin 2 → ℕ} {io : ∀ a, o a + S128x512.size a ≤ S128x2048.size a} (ho : o = ![0, 512 * (qf c).val] := by clear * -; revert c; decide +kernel)
    {kk : PUnit → Prog (TpuEff nD τ sig (Elt F) Λ₀ .tc) α} (hj : iprop(St m b c l ∗ P) ⊢ WP c (kk ⟨⟩) Q) :
    iprop(St m b c ([.copy .out] ++ l) ∗ mpt c qM (qsh 0) (KProof.Q m c) ∗ mpt c (oB (qf c)) fullShare f ∗ P)
      ⊢ WP c (Prog.lift (.enqueueDma qM (.here (oA.slice (Rect.unit (s := S128x2048) o S128x512.size io) (fun _ => rfl))) (.dma sem)
          (Memref.isWhole_whole _).wordExact (View.wordExact_bits rfl) ⟨Or.inl rfl, trivial⟩) >>= kk) Q := by
  subst ho
  iintro ⟨H, Hx, Hv, HP⟩
  iapply (st_copy (m := m) (b := b) (c := c) (l := l) (src := qM) (dst := oB (qf c)) (k := .out) hs (q := qsh 0)
    (fs := KProof.Q m c) (fd := f) (oB_credit _) ?_) $$ [H Hx Hv]
  · refine Entails.of_eq ?_
    show _ = iprop(mpt c (oB (qf c)) fullShare (OUT m c) ∗ mpt c qM (qsh 0) (KProof.Q m c))
    congr 1
    exact pointsTo_congr (write_eq_on (oB (qf c)).view f (OUT m c) _ (by rw [View.read_whole]; exact (out_read m c c (mate_self c)).symm))
  · isplitl [H]; · iexact H
    isplitl [Hx] <;> iassumption
  iintro H
  iapply hj
  isplitl [H] <;> iassumption

theorem g_send (i : Fin 3) {n' : Dev nD} (hn : n' = peer c i := by clear * -; revert c; decide +kernel) {sS sR : DmaSem sig} (hsS : sS = (Dk.gs i).ix := by rfl) (hsR : sR = (Dk.gr i).ix := by rfl)
    {o : Fin 2 → ℕ} {io : ∀ a, o a + S128x512.size a ≤ S128x2048.size a} (ho : o = ![0, 512 * (qf c).val] := by clear * -; revert c; decide +kernel)
    {kk : PUnit → Prog (TpuEff nD τ sig (Elt F) Λ₀ .tc) α} (hj : iprop(St m true c l ∗ P) ⊢ WP c (kk ⟨⟩) Q) :
    iprop(St m true c ([.send (.gs i) (peer c i) (.gr i)] ++ l) ∗ mpt c qM (qsh i.succ) (KProof.Q m c) ∗ P)
      ⊢ WP c (Prog.lift (.enqueueDma qM (.remote (Dev.tc n' : Thread nD τ) (oA.slice (Rect.unit (s := S128x2048) o S128x512.size io) (fun _ => rfl)) (.dma sS)) (.dma sR)
          (Memref.isWhole_whole _).wordExact (View.wordExact_bits rfl) ⟨⟨rfl, Or.inl rfl⟩, trivial⟩) >>= kk) Q := by
  subst ho
  show iprop(St m true c (.send (.gs i) (peer c i) (.gr i) :: l) ∗ _) ⊢ _
  iintro ⟨H, Hq, HP⟩
  ihave H := (st_open (m := m) (c := c) (l := l)) $$ H
  icases H with ⟨H, Hd, -, Ha⟩
  ihave Hd := (Entails.of_eq (show dest m c (peer c i) (.gr i) = iprop(∃ f, mpt (F := F) (peer c i) (oB (qf c)) fullShare f) from rfl)) $$ Hd
  icases Hd with ⟨%fd, Hd⟩
  iapply (st_send (m := m) (c := c) (l := l) (src := qM) (dst := oB (qf c)) (ks := .gs i) (kr := .gr i) (n := peer c i) hn hsS hsR (q := qsh i.succ)
    (fs := KProof.Q m c) (fd := fd) (oB_credit _) rfl (Entails.of_eq rfl) ?_) $$ [H Hq Hd Ha]
  · refine Entails.of_eq ?_
    show _ = mpt (peer c i) (oB (qf (peer (peer c i) i))) fullShare (OUT m (peer c i))
    rw [peer_peer]
    exact pointsTo_congr (write_eq_on (oB (qf c)).view fd (OUT m (peer c i)) _ (by rw [View.read_whole]; exact (out_read m c (peer c i) (mate_peer c i)).symm))
  · isplitl [H]; · iexact H
    isplitl [Hq]; · iexact Hq
    isplitl [Hd] <;> iassumption
  iintro H
  iapply hj
  isplitl [H] <;> iassumption

/-- The finished block, shared among its four readers. -/
theorem q_shares (c : Dev nD) (f : FVec F S128x512 .f32) : mpt c qM fullShare f
    = iprop((mpt c qM (qsh 0) f ∗ mpt c qM (qsh 1) f) ∗ (mpt c qM (qsh 2) f ∗ mpt c qM (qsh 3) f)) := by
  have h : ∀ q : PosShare TreeShare, mpt c qM q f = iprop(mpt c qM q.left f ∗ mpt c qM q.right f) :=
    fun q => by
    have hu := pointsTo_share (ℓ := qM.view.loc (c : Thread nD τ)) (I := qM.view.set) (Ix := Unit) (Val := Elt F) (Name := ℕ) (U := UU) (f := f) (Lvl := ℕ) (PosShare.mem_left_op_right q)
    exact equiv_iff.mp ⟨hu.1, hu.2⟩
  rw [h fullShare, h fullShare.left, h fullShare.right]
  rfl

end Cert.KProof
-- ==== Proof.Words.lean ====
/-
  The words the kernel computes from its device number, and the stretches of the kernel applied to its operands.
-/
module

public import proofs.«01_k».proof.Proof.Guard

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Words

Each word the kernel passes from one stretch to another, as a function of the device. -/

abbrev w2 (c : Dev nD) : BitVec 32 := Scalar.remsi (Scalar.divsi (Dev.word c) 8#32) 2#32
abbrev w5 (c : Dev nD) : BitVec 32 := Scalar.remsi (Scalar.divsi (Dev.word c) 4#32) 2#32
abbrev w8 (c : Dev nD) : BitVec 32 := Scalar.remsi (Scalar.divsi (Dev.word c) 1#32) 4#32
abbrev w10 (c : Dev nD) : BitVec 32 := Scalar.addi (Scalar.muli 2#32 (w2 c)) (w5 c)
abbrev w59 (c : Dev nD) : BitVec 1 := Scalar.andi (Scalar.cmpi .sgt (w8 c) 0#32) (Scalar.cmpi .slt (w8 c) 3#32)
abbrev w61 (c : Dev nD) : BitVec 1 := Scalar.cmpi .ne (Scalar.extui (w59 c)) 0#32
abbrev w66 (c : Dev nD) : BitVec 32 := Scalar.minsi (Scalar.addi (w8 c) 1#32) 3#32
abbrev w68 (c : Dev nD) : BitVec 32 := Scalar.maxsi (Scalar.subi (w8 c) 1#32) 0#32
abbrev w79 (c : Dev nD) : BitVec 32 := Scalar.extui (Scalar.cmpi .eq (w8 c) 3#32)
abbrev w87 (c : Dev nD) : BitVec 1 := Scalar.cmpi .sle (w8 c) 1#32
abbrev w88 (c : Dev nD) : BitVec 1 := Scalar.xori (w87 c) 1#1
abbrev w96 (c : Dev nD) : BitVec 1 := Scalar.andi (w87 c) (Scalar.cmpi .sgt (w8 c) 0#32)
abbrev w123 (c : Dev nD) : BitVec 32 := Scalar.extui (Scalar.andi (Scalar.andi (w87 c) (Scalar.cmpi .slt (w8 c) 3#32)) (Scalar.cmpi .sgt (w8 c) 0#32))
abbrev w147 (c : Dev nD) : BitVec 32 := Scalar.extui (Scalar.andi (Scalar.andi (w88 c) (Scalar.cmpi .slt (w8 c) 3#32)) (Scalar.cmpi .sgt (w8 c) 0#32))
abbrev w198 (c : Dev nD) : BitVec 1 := Scalar.andi (w87 c) (Scalar.cmpi .sgt (w8 c) 0#32)
abbrev w199 (c : Dev nD) : BitVec 1 := Scalar.cmpi .sle (w8 c) 2#32
abbrev w225 (c : Dev nD) : BitVec 32 := Scalar.extui (Scalar.andi (Scalar.andi (w87 c) (Scalar.cmpi .slt (w8 c) 3#32)) (Scalar.cmpi .sge (w8 c) 1#32))
abbrev w250 (c : Dev nD) : BitVec 1 := Scalar.cmpi .ne (Scalar.extui (Scalar.andi (Scalar.andi (w88 c) (Scalar.cmpi .slt (w8 c) 3#32)) (Scalar.cmpi .sge (w8 c) 1#32))) 0#32
abbrev w276 (c : Dev nD) : BitVec 1 := Scalar.andi (w88 c) (Scalar.cmpi .sgt (w8 c) 0#32)
abbrev w303 (c : Dev nD) : BitVec 32 := Scalar.extui (Scalar.andi (Scalar.andi (w87 c) (Scalar.cmpi .sgt (w8 c) 0#32)) (Scalar.cmpi .slt (w8 c) 1#32))
abbrev w327 (c : Dev nD) : BitVec 32 := Scalar.extui (Scalar.andi (Scalar.andi (w87 c) (Scalar.cmpi .slt (w8 c) 3#32)) (Scalar.cmpi .sgt (w8 c) 2#32))
abbrev w469 (c : Dev nD) : BitVec 1 := Scalar.cmpi .ne (Scalar.extui (Scalar.cmpi .eq (w8 c) 0#32)) 0#32
abbrev w510 (c : Dev nD) : BitVec 1 := Scalar.cmpi .slt (w8 c) 3#32
abbrev w511 (c : Dev nD) : BitVec 1 := Scalar.cmpi .sgt (w8 c) 0#32
abbrev w532 (c : Dev nD) : BitVec 32 := Scalar.extui (Scalar.cmpi .eq (w8 c) 3#32)
abbrev w553 (c : Dev nD) : BitVec 32 := Scalar.extui (Scalar.andi (Scalar.cmpi .slt (w8 c) 3#32) (Scalar.cmpi .sgt (w8 c) 2#32))

/-- A stretch of the kernel on the kernel's own operands. -/
abbrev ap {R : Type _} (f : (arg0 : Memref sig .tc .hbm S512x512 .f32) → (harg0 : arg0.IsWhole) → (arg1 : Memref sig .tc .hbm S512x2048 .f32) → (harg1 : arg1.IsWhole) → (arg2 : Memref sig .tc .hbm S128x2048 .f32) → (harg2 : arg2.IsWhole) → (arg3 : Memref sig .tc .vmem S512x512 .f32) → (harg3 : arg3.IsWhole) → (arg4 : Memref sig .tc .vmem S512x512 .f32) → (harg4 : arg4.IsWhole) → (arg5 : Memref sig .tc .vmem S512x512 .f32) → (harg5 : arg5.IsWhole) → (arg6 : Memref sig .tc .vmem S128x512 .f32) → (harg6 : arg6.IsWhole) → (arg7 : Memref sig .tc .vmem S512x512 .f32) → (harg7 : arg7.IsWhole) → (arg8 : Memref sig .tc .vmem S512x512 .f32) → (harg8 : arg8.IsWhole) → (arg9 : DmaSems sig S4x2) → (arg10 : DmaSems sig S4x2) → (arg11 : DmaSems sig S4x2) → (arg12 : DmaSems sig S4x2) → (arg13 : DmaSems sig S3) → (arg14 : DmaSems sig S3) → (arg15 : DmaSems sig S2) → (arg16 : DmaSems sig S_) → R) : R :=
  f (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13

end Cert.KProof
-- ==== Proof.Parts.lean ====
/-
  The stretches of the kernel that only pass half rows on, one theorem each: if the state after the stretch leads on, the
  state before it leads through the stretch.
-/
module

public import proofs.«01_k».proof.Proof.Words

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ}
variable {P : sProp (MT nD τ sig Unit (Elt F) ℕ UU ℕ)} {c : Dev nD} {l : List Ev}

theorem part4 {Q : (Σ' (v87 : BitVec 1) (v88 : BitVec 1), BitVec 1) → sProp 𝕄} (v2 v5 v66 v68 : BitVec 32) (hj : iprop(St m true c l ∗ P) ⊢ Q ⟨(w87 c), (w88 c), (w96 c)⟩) :
    iprop(St m true c (seg4 c l) ∗ P) ⊢ WP c (ap (k0_part4 (F := F)) c v2 v5 (w8 c) v66 v68 (w79 c)) Q := by
  rw [k0_part4_eq_skeleton]; unfold k0_part4_skel
  refine m_inj 0 (hj := ?_)
  refine m_inj 1 (hj := ?_)
  refine m_inj 2 (hj := ?_)
  refine w_if (hN := p_credit _ _) (hj := ?_)
  exact wp_pure_of hj

theorem part5 {Q : (BitVec 32) → sProp 𝕄} (v2 v5 v66 v68 : BitVec 32) (hj : iprop(St m true c l ∗ P) ⊢ Q (w123 c)) :
    iprop(St m true c (seg5 c l) ∗ P) ⊢ WP c (ap (k0_part5 (F := F)) c v2 v5 (w8 c) v66 v68 (w87 c) (w96 c)) Q := by
  rw [k0_part5_eq_skeleton]; unfold k0_part5_skel
  refine p_add 3 0 (hj := ?_)
  refine w_if (hN := p_credit _ _) (hj := ?_)
  refine p_add 3 1 (hj := ?_)
  refine w_if (hN := m_credit _ _) (hj := ?_)
  exact wp_pure_of hj

theorem part6 {Q : (BitVec 32) → sProp 𝕄} (v2 v5 v68 : BitVec 32) (hj : iprop(St m true c l ∗ P) ⊢ Q (w147 c)) :
    iprop(St m true c (seg6 c l) ∗ P) ⊢ WP c (ap (k0_part6 (F := F)) c v2 v5 (w8 c) v68 (w87 c) (w88 c) (w123 c)) Q := by
  rw [k0_part6_eq_skeleton]; unfold k0_part6_skel
  refine m_add 0 0 (hj := ?_)
  refine w_if (hN := m_credit _ _) (hj := ?_)
  refine m_add 0 1 (hj := ?_)
  refine w_if (hN := m_credit _ _) (hj := ?_)
  exact wp_pure_of hj

theorem part7 {Q : (BitVec 32) → sProp 𝕄} (v2 v5 v66 v68 : BitVec 32) (hj : iprop(St m true c l ∗ P) ⊢ Q 0#32) :
    iprop(St m true c (seg7 c l) ∗ P) ⊢ WP c (ap (k0_part7 (F := F)) c v2 v5 (w8 c) v66 v68 (w88 c) (w147 c)) Q := by
  rw [k0_part7_eq_skeleton]; unfold k0_part7_skel
  refine m_add 0 0 (hj := ?_)
  refine w_if (hN := m_credit _ _) (hj := ?_)
  refine m_add 0 1 (hj := ?_)
  refine w_if (hN := p_credit _ _) (hj := ?_)
  refine p_add 3 0 (hj := ?_)
  exact wp_pure_of hj

theorem part8 {Q : (Σ' (v198 : BitVec 1), BitVec 1) → sProp 𝕄} (v2 v5 v66 : BitVec 32) (hj : iprop(St m true c l ∗ P) ⊢ Q ⟨(w198 c), (w199 c)⟩) :
    iprop(St m true c (seg8 c l) ∗ P) ⊢ WP c (ap (k0_part8 (F := F)) c v2 v5 (w8 c) v66 (w87 c) (w88 c) 0#32) Q := by
  rw [k0_part8_eq_skeleton]; unfold k0_part8_skel
  refine w_if (hN := p_credit _ _) (hj := ?_)
  refine p_add 3 1 (hj := ?_)
  refine w_if (hN := p_credit _ _) (hj := ?_)
  refine p_add 2 0 (hj := ?_)
  exact wp_pure_of hj

theorem part9 {Q : (BitVec 32) → sProp 𝕄} (v2 v5 v66 v68 : BitVec 32) (hj : iprop(St m true c l ∗ P) ⊢ Q (w225 c)) :
    iprop(St m true c (seg9 c l) ∗ P) ⊢ WP c (ap (k0_part9 (F := F)) c v2 v5 (w8 c) v66 v68 (w87 c) (w198 c) (w199 c)) Q := by
  rw [k0_part9_eq_skeleton]; unfold k0_part9_skel
  refine w_if (hN := p_credit _ _) (hj := ?_)
  refine p_add 2 1 (hj := ?_)
  refine w_if (hN := m_credit _ _) (hj := ?_)
  refine m_add 1 0 (hj := ?_)
  exact wp_pure_of hj

theorem part10 {Q : (BitVec 1) → sProp 𝕄} (v2 v5 v68 : BitVec 32) (hj : iprop(St m true c l ∗ P) ⊢ Q (w250 c)) :
    iprop(St m true c (seg10 c l) ∗ P) ⊢ WP c (ap (k0_part10 (F := F)) c v2 v5 (w8 c) v68 (w87 c) (w88 c) (w225 c)) Q := by
  rw [k0_part10_eq_skeleton]; unfold k0_part10_skel
  refine w_if (hN := m_credit _ _) (hj := ?_)
  refine m_add 1 1 (hj := ?_)
  refine w_if (hN := m_credit _ _) (hj := ?_)
  refine m_add 1 0 (hj := ?_)
  exact wp_pure_of hj

theorem part11 {Q : (BitVec 1) → sProp 𝕄} (v2 v5 v66 v68 : BitVec 32) (hj : iprop(St m true c l ∗ P) ⊢ Q (w276 c)) :
    iprop(St m true c (seg11 c l) ∗ P) ⊢ WP c (ap (k0_part11 (F := F)) c v2 v5 (w8 c) v66 v68 (w88 c) (w250 c)) Q := by
  rw [k0_part11_eq_skeleton]; unfold k0_part11_skel
  refine w_if (hN := m_credit _ _) (hj := ?_)
  refine m_add 1 1 (hj := ?_)
  refine w_if (hN := p_credit _ _) (hj := ?_)
  refine p_add 2 0 (hj := ?_)
  refine w_if (hN := p_credit _ _) (hj := ?_)
  exact wp_pure_of hj

theorem part12 {Q : (BitVec 32) → sProp 𝕄} (v2 v5 v66 : BitVec 32) (hj : iprop(St m true c l ∗ P) ⊢ Q (w303 c)) :
    iprop(St m true c (seg12 c l) ∗ P) ⊢ WP c (ap (k0_part12 (F := F)) c v2 v5 (w8 c) v66 (w87 c) (w276 c)) Q := by
  rw [k0_part12_eq_skeleton]; unfold k0_part12_skel
  refine p_add 2 1 (hj := ?_)
  refine w_if (hN := p_credit _ _) (hj := ?_)
  refine p_add 1 0 (hj := ?_)
  refine w_if (hN := p_credit _ _) (hj := ?_)
  exact wp_pure_of hj

theorem part13 {Q : (BitVec 32) → sProp 𝕄} (v2 v5 v66 v68 : BitVec 32) (hj : iprop(St m true c l ∗ P) ⊢ Q (w327 c)) :
    iprop(St m true c (seg13 c l) ∗ P) ⊢ WP c (ap (k0_part13 (F := F)) c v2 v5 (w8 c) v66 v68 (w87 c) (w303 c)) Q := by
  rw [k0_part13_eq_skeleton]; unfold k0_part13_skel
  refine p_add 1 1 (hj := ?_)
  refine w_if (hN := m_credit _ _) (hj := ?_)
  refine m_add 2 0 (hj := ?_)
  refine w_if (hN := m_credit _ _) (hj := ?_)
  exact wp_pure_of hj

theorem part14 {Q : (BitVec 32) → sProp 𝕄} (v2 v5 v68 : BitVec 32) (hj : iprop(St m true c l ∗ P) ⊢ Q 0#32) :
    iprop(St m true c (seg14 c l) ∗ P) ⊢ WP c (ap (k0_part14 (F := F)) c v2 v5 (w8 c) v68 (w88 c) (w327 c)) Q := by
  rw [k0_part14_eq_skeleton]; unfold k0_part14_skel
  refine m_add 2 1 (hj := ?_)
  refine w_if (hN := m_credit _ _) (hj := ?_)
  refine m_add 2 0 (hj := ?_)
  refine w_if (hN := m_credit _ _) (hj := ?_)
  refine m_add 2 1 (hj := ?_)
  exact wp_pure_of hj

theorem part15 {Q : (Vec F S128x512 .f32) → sProp 𝕄} (v2 v5 v66 : BitVec 32) (hj : iprop(St m true c l ∗ P) ⊢ Q (rowOf (zf c) (ACC m c))) :
    iprop(St m true c (seg15 c l) ∗ P) ⊢ WP c (ap (k0_part15 (F := F)) c v2 v5 (w8 c) v66 (w88 c) 0#32) Q := by
  rw [k0_part15_eq_skeleton]; unfold k0_part15_skel
  refine w_if (hN := p_credit _ _) (hj := ?_)
  refine p_add 1 0 (hj := ?_)
  refine w_if (hN := p_credit _ _) (hj := ?_)
  refine p_add 1 1 (hj := ?_)
  refine ld_acc ?_
  exact wp_pure_of hj

theorem part19 {Q : (PUnit) → sProp 𝕄} (hj : iprop(St m true c l ∗ P) ⊢ Q ⟨⟩) :
    iprop(St m true c (seg19 c l) ∗ P) ⊢ WP c (ap (k0_part19 (F := F)) (w8 c) (w469 c)) Q := by
  rw [k0_part19_eq_skeleton]; unfold k0_part19_skel
  refine w_if (hN := a_credit _ _) (hj := ?_)
  refine w_if (hN := p_credit _ _) (hj := ?_)
  refine w_if (hN := a_credit _ _) (hj := ?_)
  refine w_if (hN := p_credit _ _) (hj := ?_)
  refine w_if (hN := a_credit _ _) (hj := ?_)
  refine w_if (hN := p_credit _ _) (hj := ?_)
  exact wp_pure_of hj

theorem part20 {Q : (Σ' (v510 : BitVec 1), BitVec 1) → sProp 𝕄} (hj : iprop(St m true c l ∗ P) ⊢ Q ⟨(w510 c), (w511 c)⟩) :
    iprop(St m true c (seg20 c l) ∗ P) ⊢ WP c (ap (k0_part20 (F := F)) (w8 c)) Q := by
  rw [k0_part20_eq_skeleton]; unfold k0_part20_skel
  refine w_if (hN := a_credit _ _) (hj := ?_)
  refine w_if (hN := p_credit _ _) (hj := ?_)
  refine w_if (hN := a_credit _ _) (hj := ?_)
  refine w_if (hN := p_credit _ _) (hj := ?_)
  refine w_if (hN := a_credit _ _) (hj := ?_)
  exact wp_pure_of hj

theorem part21 {Q : (BitVec 32) → sProp 𝕄} (hj : iprop(St m true c l ∗ P) ⊢ Q (w532 c)) :
    iprop(St m true c (seg21 c l) ∗ P) ⊢ WP c (ap (k0_part21 (F := F)) (w8 c) (w510 c) (w511 c)) Q := by
  rw [k0_part21_eq_skeleton]; unfold k0_part21_skel
  refine w_if (hN := m_credit _ _) (hj := ?_)
  refine w_if (hN := a_credit _ _) (hj := ?_)
  refine w_if (hN := m_credit _ _) (hj := ?_)
  refine w_if (hN := a_credit _ _) (hj := ?_)
  refine w_if (hN := m_credit _ _) (hj := ?_)
  exact wp_pure_of hj

theorem part22 {Q : (BitVec 32) → sProp 𝕄} (hj : iprop(St m true c l ∗ P) ⊢ Q (w553 c)) :
    iprop(St m true c (seg22 c l) ∗ P) ⊢ WP c (ap (k0_part22 (F := F)) (w8 c) (w532 c)) Q := by
  rw [k0_part22_eq_skeleton]; unfold k0_part22_skel
  refine w_if (hN := a_credit _ _) (hj := ?_)
  refine w_if (hN := m_credit _ _) (hj := ?_)
  refine w_if (hN := a_credit _ _) (hj := ?_)
  refine w_if (hN := m_credit _ _) (hj := ?_)
  refine w_if (hN := a_credit _ _) (hj := ?_)
  exact wp_pure_of hj

end Cert.KProof
-- ==== Proof.Body.lean ====
/-
  The kernel's remaining stretches, and the whole body run through its steps.
-/
module

public import proofs.«01_k».proof.Proof.Hand
public import proofs.«01_k».proof.Proof.Parts

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ}
variable {P : sProp (MT nD τ sig Unit (Elt F) ℕ UU ℕ)} {c : Dev nD} {l : List Ev}

/-- What a device leaves of its second operand when it reads its own column block. -/
abbrev yRest (m : (ℓ : Loc nD τ sig) → Buf (Elt F) ℓ) (c : Dev nD) : sProp 𝕄 :=
  yA.view.loc (c : Thread nD τ) ↦[yA.view.set \ (yB (qf c)).view.set]{fullShare} m ((c : Thread nD τ).loc main_arg1)

theorem y_cut (c : Dev nD) : mpt c yA fullShare (m ((c : Thread nD τ).loc main_arg1))
    ⊢ iprop(mpt c (yB (qf c)) fullShare (m ((c : Thread nD τ).loc main_arg1)) ∗ yRest m c) :=
  (pointsTo_split_subset (View.set_slice_subset _ _)).1
theorem y_uncut (c : Dev nD) : iprop(mpt c (yB (qf c)) fullShare (m ((c : Thread nD τ).loc main_arg1)) ∗ yRest m c)
    ⊢ mpt c yA fullShare (m ((c : Thread nD τ).loc main_arg1)) :=
  (pointsTo_split_subset (View.set_slice_subset _ _)).2

/-- The first stretch: both input copies start, the first two signals go out. -/
theorem part1 {Q : (Σ' (d0 : Dev nD) (v2 : BitVec 32) (v5 : BitVec 32) (v8 : BitVec 32) (v10 : BitVec 32), Sems sig S_) → sProp 𝕄}
    {f g : FVec F S512x512 .f32}
    (hj : iprop(St m false c l ∗ yRest m c ∗ P) ⊢ Q ⟨c, w2 c, w5 c, w8 c, w10 c, SemArray.scalar (sig.barrier 0 rfl)⟩) :
    iprop(St m false c (seg1 c l) ∗ mpt c xA fullShare (m ((c : Thread nD τ).loc main_arg0)) ∗ mpt c yA fullShare (m ((c : Thread nD τ).loc main_arg1))
        ∗ mpt c xM fullShare f ∗ mpt c dM fullShare g ∗ barPay (peer c 1) 1 ∗ barPay (peer c 2) 2 ∗ P)
      ⊢ WP c (ap (k0_part1 (F := F))) Q := by
  rw [k0_part1_eq_skeleton]; unfold k0_part1_skel
  refine BIBase.Entails.trans (Q := iprop(St m false c (seg1 c l) ∗ mpt c xA fullShare (m ((c : Thread nD τ).loc main_arg0)) ∗ mpt c xM fullShare f
    ∗ (mpt c (yB (qf c)) fullShare (m ((c : Thread nD τ).loc main_arg1)) ∗ mpt c dM fullShare g ∗ (barPay (peer c 1) 1 ∗ (barPay (peer c 2) 2 ∗ (yRest m c ∗ P)))))) ?_ ?_
  · iintro ⟨H, Hx, Hy, Hxv, Hdv, H1, H2, HP⟩
    ihave Hy := (y_cut (m := m) c) $$ Hy
    icases Hy with ⟨Hy, Hr⟩
    iframe
  show _ ⊢ wp frame (wpE (defs₀ (F := F)) 𝒱₀ (c : Thread nD τ) none) Set.univ (.op .deviceId _) Q
  rw [wp_deviceId]
  refine x_copy (hj := ?_)
  refine y_copy (hj := ?_)
  refine sig_all (hj := ?_)
  refine sig_all (hj := ?_)
  exact wp_pure_of hj

abbrev sqR : Rect S512x512 := Rect.unit (s := S512x512) ![0, 0] S512x512.size inb_S512x512_S512x512_0_0

theorem x_read (f : FVec F S512x512 .f32) : (xM.access sqR).read (Elt F) f = f := Memref.read_access_unit_zero (Elt F) cc0_scratch4 zero_off _ f
theorem d_read (f : FVec F S512x512 .f32) : (dM.access sqR).read (Elt F) f = f := Memref.read_access_unit_zero (Elt F) cc0_scratch5 zero_off _ f
theorem a_read (f : FVec F S512x512 .f32) : (aM.access sqR).read (Elt F) f = f := Memref.read_access_unit_zero (Elt F) cc0_scratch0 zero_off _ f
theorem a_write (f w : FVec F S512x512 .f32) : (aM.access sqR).write (Elt F) f w Finset.univ = w :=
  Memref.write_access_unit_zero_univ (Elt F) cc0_scratch0 zero_off _ f w

/-- The second stretch: the other signals go out, the input copies are waited for, the device's own product is formed. -/
theorem part2 {Q : (Σ' (v59 : BitVec 1), BitVec 1) → sProp 𝕄} (v2 v5 : BitVec 32) {f : FVec F S512x512 .f32}
    (hj : iprop(St m false c l ∗ dmaPay m c (.inn 0) ∗ dmaPay m c (.inn 1) ∗ mpt c aM fullShare (ACC m c) ∗ P) ⊢ Q ⟨w59 c, w61 c⟩) :
    iprop(St m false c (seg2 c l) ∗ barPay (peer c 0) 0 ∗ (if 0 < zz c then barPay (dn c) 4 else iprop(emp)) ∗ (if zz c < 3 then barPay (up c) 3 else iprop(emp))
        ∗ mpt c aM fullShare f ∗ P)
      ⊢ WP c (ap (k0_part2 (F := F)) c v2 v5 (w8 c) (SemArray.scalar (sig.barrier 0 rfl))) Q := by
  rw [k0_part2_eq_skeleton]; unfold k0_part2_skel
  refine sig_all (hj := ?_)
  refine sig_if (hj := ?_)
  refine sig_if (hj := ?_)
  refine w_all (k := .inn 0) rfl (by show xM.view.dmaCredit = Nw; unfold Nw; rfl) ?_
  refine BIBase.Entails.trans (Q := iprop(St m false c ([.wait (some (.inn 1))] ++ l) ∗ (dmaPay m c (.inn 0) ∗ mpt c aM fullShare f ∗ P))) ?_ ?_
  · iintro ⟨H, Hy, Ha, HP⟩
    isplitl [H]; · iexact H
    isplitl [Hy]; · iapply (Entails.of_eq (show yields m c (some (.inn 0)) = dmaPay m c (.inn 0) from rfl)); iexact Hy
    iframe
  refine w_all (k := .inn 1) rfl dM_credit ?_
  iintro ⟨H, Hy, Hx, Ha, HP⟩
  ihave Hy := (Entails.of_eq (show yields m c (some (.inn 1)) = iprop(mpt c dM fullShare (DY m c) ∗ mpt c (yB (qf c)) fullShare (m ((c : Thread nD τ).loc main_arg1))) from rfl)) $$ Hy
  ihave Hx := (Entails.of_eq (show dmaPay m c (.inn 0) = iprop(mpt c xM fullShare (X m c) ∗ mpt c xA fullShare (m ((c : Thread nD τ).loc main_arg0))) from rfl)) $$ Hx
  icases Hx with ⟨Hx, Hxa⟩
  icases Hy with ⟨Hy, Hya⟩
  iapply (ld_of (c := c) (x_read (X m c)) (S := xM.view.set) (by rw [View.set_whole]; exact Finset.subset_univ _)) $$ Hx
  iintro Hx
  iapply (ld_of (c := c) (d_read (DY m c)) (S := dM.view.set) (by rw [View.set_whole]; exact Finset.subset_univ _)) $$ Hy
  iintro Hy
  iapply (ld_of (c := c) (a_read f) (S := aM.view.set) (by rw [View.set_whole]; exact Finset.subset_univ _)) $$ Ha
  iintro Ha
  iapply (sto_of (c := c) (M := aM) (r := sqR) (f := f) (f' := ACC m c) (a_write f _) (S := aM.view.set)
    ((View.setOn_subset_set _ _).trans (by rw [View.set_whole]; exact Finset.subset_univ _))) $$ Ha
  iintro Ha
  iapply (wp_pure_of (c := c) hj)
  isplitl [H]; · iexact H
  isplitl [Hx Hxa]
  · iapply (Entails.of_eq (show iprop(mpt c xM fullShare (X m c) ∗ mpt c xA fullShare (m ((c : Thread nD τ).loc main_arg0))) = dmaPay m c (.inn 0) from rfl))
    isplitl [Hx] <;> iassumption
  isplitl [Hy Hya]
  · iapply (Entails.of_eq (show iprop(mpt c dM fullShare (DY m c) ∗ mpt c (yB (qf c)) fullShare (m ((c : Thread nD τ).loc main_arg1))) = dmaPay m c (.inn 1) from rfl))
    isplitl [Hy] <;> iassumption
  isplitl [Ha] <;> iassumption

/-- The tail of the steps after the third stretch. -/
abbrev tail4 (c : Dev nD) : List Ev :=
  seg4 c (seg5 c (seg6 c (seg7 c (seg8 c (seg9 c (seg10 c (seg11 c (seg12 c (seg13 c (seg14 c (seg15 c (seg16 c
    (seg17 c (seg18 c (seg19 c (seg20 c (seg21 c (seg22 c (seg23 c [])))))))))))))))))))

/-- The third stretch: the barrier wait, after which every landing place is in hand, and the first sends. -/
theorem part3 {Q : (Σ' (v66 : BitVec 32) (v68 : BitVec 32), BitVec 32) → sProp 𝕄} (v2 v5 : BitVec 32)
    (hj : iprop(St m true c (tail4 c) ∗ on (fun p => ¬ gA c p) (aR m c) ∗ P) ⊢ Q ⟨w66 c, w68 c, w79 c⟩) :
    iprop(St m false c (segB c (tail c)) ∗ mpt c aM fullShare (ACC m c) ∗ P)
      ⊢ WP c (ap (k0_part3 (F := F)) c v2 v5 (w8 c) (SemArray.scalar (sig.barrier 0 rfl)) (w59 c) (w61 c)) Q := by
  rw [k0_part3_eq_skeleton]; unfold k0_part3_skel
  refine bar_if (n := 5) (by clear * -; revert c; decide +kernel) (fun _ => rfl) (by clear * -; revert c; decide +kernel) (hj := ?_)
  refine BIBase.Entails.trans (Q := iprop(St m false c (opt (!mid c) (.wait none) ++ tail c)
    ∗ ((if mid c = true then bigSep (dut c none) (barPay (F := F) c) else iprop(emp)) ∗ mpt c aM fullShare (ACC m c) ∗ P))) ?_ ?_
  · iintro ⟨H, Hy, Ha, HP⟩; iframe
  refine bar_if (n := 4) (by clear * -; revert c; decide +kernel) (fun _ => rfl) (by clear * -; revert c; decide +kernel) (hj := ?_)
  refine BIBase.Entails.trans (Q := iprop(St m true c (seg3 c (tail4 c)) ∗ (on (fun p => ¬ gA c p) (aR m c) ∗ P))) ?_ ?_
  · refine BIBase.Entails.trans (Q := iprop((St m false c (tail c) ∗ bigSep (dut c none) (barPay (F := F) c) ∗ mpt c aM fullShare (ACC m c)) ∗ P)) ?_ ?_
    · cases mid c
      · simp only [Bool.not_false, if_true, Bool.false_eq_true, if_false]
        iintro ⟨H, Hy, -, Ha, HP⟩; iframe
      · simp only [Bool.not_true, if_true, Bool.false_eq_true, if_false]
        iintro ⟨H, -, Hy, Ha, HP⟩; iframe
    · iintro ⟨H, HP⟩
      ihave H := (st_barrier (m := m) (c := c)) $$ H
      icases H with ⟨H, Hr⟩
      isplitl [H]; · iexact H
      isplitl [Hr] <;> iassumption
  refine p_inj 3 (hj := ?_)
  refine p_inj 2 (hj := ?_)
  refine p_inj 1 (hj := ?_)
  exact wp_pure_of hj

/-- The sixteenth stretch: the finished block is gathered and copied to the result, and the first exchange send goes out. -/
theorem part16 {Q : (Σ' (v391 : BitVec 32) (v392 : BitVec 32) (v394 : BitVec 32) (v396 : BitVec 32), BitVec 32) → sProp 𝕄} (v2 v5 v10 : BitVec 32)
    {f : FVec F S128x512 .f32} {g : FVec F S128x2048 .f32}
    (hj : ∀ r, iprop(St m true c l ∗ ownP m c ∗ ownM m c ∗ mpt c qM (qsh 2) (KProof.Q m c) ∗ mpt c qM (qsh 3) (KProof.Q m c) ∗ P) ⊢ Q r) :
    iprop(St m true c (seg16 c l) ∗ mpt c qM fullShare f ∗ mpt c (oB (qf c)) fullShare g ∗ P)
      ⊢ WP c (ap (k0_part16 (F := F)) c v2 v5 (w8 c) v10 (rowOf (zf c) (ACC m c))) Q := by
  rw [k0_part16_eq_skeleton]; unfold k0_part16_skel
  refine BIBase.Entails.trans (Q := iprop(St m true c ([.copy .out] ++ ([.send (.gs 0) (peer c 0) (.gr 0)] ++ l)) ∗ mpt c qM fullShare f
    ∗ (ownP m c ∗ ownM m c ∗ mpt c (oB (qf c)) fullShare g ∗ P))) ?_ ?_
  · iintro ⟨H, Hq, Ho, HP⟩
    ihave H := (show St m true c (seg16 c l) ⊢ iprop(St m true c ([.copy .out] ++ ([.send (.gs 0) (peer c 0) (.gr 0)] ++ l)) ∗ ownP m c ∗ ownM m c) from take_rows) $$ H
    icases H with ⟨H, Hp, Hm⟩
    isplitl [H]; · iexact H
    isplitl [Hq]; · iexact Hq
    isplitl [Hp]; · iexact Hp
    isplitl [Hm]; · iexact Hm
    iframe
  refine q_put (v := rowOf (zf c) (ACC m c)) (shapeCast_self _ _) ?_
  refine BIBase.Entails.trans (Q := iprop(St m true c ([.copy .out] ++ ([.send (.gs 0) (peer c 0) (.gr 0)] ++ l)) ∗ ownP m c
    ∗ mpt c qM fullShare (rowOf (zf c) (ACC m c)) ∗ (ownM m c ∗ mpt c (oB (qf c)) fullShare g ∗ P))) ?_ ?_
  · iintro ⟨H, Hq, Hp, Hm, Ho, HP⟩
    isplitl [H]; · iexact H
    isplitl [Hp]; · iexact Hp
    isplitl [Hq]; · iexact Hq
    isplitl [Hm]; · iexact Hm
    iframe
  refine fold_if (B := pM) (G := PP m (dn c)) (G' := PP m (dn c)) (g := 0 < zz c) rfl (hj := ?_)
  refine BIBase.Entails.trans (Q := iprop(St m true c ([.copy .out] ++ ([.send (.gs 0) (peer c 0) (.gr 0)] ++ l)) ∗ ownM m c
    ∗ mpt c qM fullShare (if 0 < zz c then addf (rowOf (zf c) (ACC m c)) (rowOf (zf c) (PP m (dn c))) else rowOf (zf c) (ACC m c))
    ∗ (ownP m c ∗ mpt c (oB (qf c)) fullShare g ∗ P))) ?_ ?_
  · iintro ⟨H, Hp, Hq, Hm, Ho, HP⟩
    isplitl [H]; · iexact H
    isplitl [Hm]; · iexact Hm
    isplitl [Hq]; · iexact Hq
    isplitl [Hp]; · iexact Hp
    iframe
  refine fold_if (B := mM) (G := MM m (up c)) (G' := MM m (up c)) (g := zz c < 3) rfl (hj := ?_)
  refine BIBase.Entails.trans (Q := iprop(St m true c ([.copy .out] ++ ([.send (.gs 0) (peer c 0) (.gr 0)] ++ l))
    ∗ mpt c qM (qsh 0) (KProof.Q m c) ∗ mpt c (oB (qf c)) fullShare g
    ∗ (mpt c qM (qsh 1) (KProof.Q m c) ∗ (ownP m c ∗ ownM m c ∗ mpt c qM (qsh 2) (KProof.Q m c) ∗ mpt c qM (qsh 3) (KProof.Q m c) ∗ P)))) ?_ ?_
  · iintro ⟨H, Hm, Hq, Hp, Ho, HP⟩
    ihave Hq := (Entails.of_eq (show mpt c qM fullShare (if zz c < 3 then addf (if 0 < zz c then addf (rowOf (zf c) (ACC m c)) (rowOf (zf c) (PP m (dn c))) else rowOf (zf c) (ACC m c)) (rowOf (zf c) (MM m (up c))) else if 0 < zz c then addf (rowOf (zf c) (ACC m c)) (rowOf (zf c) (PP m (dn c))) else rowOf (zf c) (ACC m c)) = mpt c qM fullShare (KProof.Q m c) from rfl)) $$ Hq
    ihave Hq := (Entails.of_eq (q_shares c (KProof.Q m c))) $$ Hq
    icases Hq with ⟨⟨H0, H1⟩, H2, H3⟩
    isplitl [H]; · iexact H
    isplitl [H0]; · iexact H0
    isplitl [Ho]; · iexact Ho
    isplitl [H1]; · iexact H1
    isplitl [Hp]; · iexact Hp
    isplitl [Hm]; · iexact Hm
    iframe
  refine o_copy (hj := ?_)
  refine g_send 0 (hj := ?_)
  exact wp_pure_of (hj _)

/-- The seventeenth stretch: the other two exchange sends, and the first block received. -/
theorem part17 {Q : BitVec 32 → sProp 𝕄} (v2 v5 v8 v394 v396 v409 : BitVec 32) (hj : ∀ r, iprop(St m true c l ∗ P) ⊢ Q r) :
    iprop(St m true c (seg17 c l) ∗ mpt c qM (qsh 2) (KProof.Q m c) ∗ mpt c qM (qsh 3) (KProof.Q m c) ∗ P)
      ⊢ WP c (ap (k0_part17 (F := F)) c v2 v5 v8 v394 v396 v409) Q := by
  rw [k0_part17_eq_skeleton]; unfold k0_part17_skel
  refine g_send 1 (hj := ?_)
  refine g_send 2 (hj := ?_)
  refine w_kept (k := .gr 1) rfl (o_credit _ _) ?_
  exact wp_pure_of (hj _)

/-- The eighteenth stretch: the other blocks received, the copy to the result done, and the first sends waited for. -/
theorem part18 {Q : BitVec 1 → sProp 𝕄} (v391 v392 v443 : BitVec 32) (hj : iprop(St m true c l ∗ P) ⊢ Q (w469 c)) :
    iprop(St m true c (seg18 c l) ∗ P) ⊢ WP c (ap (k0_part18 (F := F)) c (w8 c) v391 v392 v443) Q := by
  rw [k0_part18_eq_skeleton]; unfold k0_part18_skel
  refine w_kept (k := .gr 2) rfl (o_credit _ _) ?_
  refine w_kept (k := .gr 0) rfl (o_credit _ _) ?_
  refine w_kept (k := .out) rfl (o_credit _ _) ?_
  refine w_if (hN := a_credit _ _) (hj := ?_)
  refine w_if (hN := p_credit _ _) (hj := ?_)
  exact wp_pure_of hj

theorem q_credit : qM.view.dmaCredit = Nq := by unfold Nq; rfl

set_option maxHeartbeats 1000000 in
/-- The whole body, run through its steps. -/
theorem run_body {Q : PUnit → sProp 𝕄} {f g a : FVec F S512x512 .f32} {q : FVec F S128x512 .f32} {o : FVec F S128x2048 .f32}
    (hj : iprop(St m true c [] ∗ ownP m c ∗ ownM m c ∗ on (fun p => ¬ gA c p) (aR m c) ∗ dmaPay m c (.inn 0) ∗ dmaPay m c (.inn 1) ∗ yRest m c ∗ P) ⊢ Q ⟨⟩) :
    iprop(St m false c (events c) ∗ mpt c xA fullShare (m ((c : Thread nD τ).loc main_arg0)) ∗ mpt c yA fullShare (m ((c : Thread nD τ).loc main_arg1))
        ∗ mpt c xM fullShare f ∗ mpt c dM fullShare g ∗ barPay (peer c 1) 1 ∗ barPay (peer c 2) 2
        ∗ (barPay (peer c 0) 0 ∗ (if 0 < zz c then barPay (dn c) 4 else iprop(emp)) ∗ (if zz c < 3 then barPay (up c) 3 else iprop(emp))
        ∗ mpt c aM fullShare a ∗ mpt c qM fullShare q ∗ mpt c (oB (qf c)) fullShare o ∗ P))
      ⊢ WP c (ap (cc0_body (F := F))) Q := by
  rw [cc0_body_eq_skeleton]; unfold cc0_body_skel
  refine wp_bind_of (part1 ?_)
  refine BIBase.Entails.trans (Q := iprop(St m false c (seg2 c (segB c (tail c))) ∗ barPay (peer c 0) 0 ∗ (if 0 < zz c then barPay (dn c) 4 else iprop(emp))
    ∗ (if zz c < 3 then barPay (up c) 3 else iprop(emp)) ∗ mpt c aM fullShare a ∗ (yRest m c ∗ mpt c qM fullShare q ∗ mpt c (oB (qf c)) fullShare o ∗ P))) ?_ ?_
  · iintro ⟨H, Hy, H0, H1, H2, Ha, Hq, Ho, HP⟩
    isplitl [H]; · iexact H
    isplitl [H0]; · iexact H0
    isplitl [H1]; · iexact H1
    isplitl [H2]; · iexact H2
    isplitl [Ha]; · iexact Ha
    isplitl [Hy]; · iexact Hy
    iframe
  refine wp_bind_of (part2 _ _ ?_)
  refine BIBase.Entails.trans (Q := iprop(St m false c (segB c (tail c)) ∗ mpt c aM fullShare (ACC m c)
    ∗ (mpt c qM fullShare q ∗ mpt c (oB (qf c)) fullShare o ∗ (dmaPay m c (.inn 0) ∗ dmaPay m c (.inn 1) ∗ yRest m c ∗ P)))) ?_ ?_
  · iintro ⟨H, H0, H1, Ha, Hy, Hq, Ho, HP⟩
    isplitl [H]; · iexact H
    isplitl [Ha]; · iexact Ha
    isplitl [Hq]; · iexact Hq
    isplitl [Ho]; · iexact Ho
    isplitl [H0]; · iexact H0
    isplitl [H1]; · iexact H1
    iframe
  refine wp_bind_of (part3 _ _ ?_)
  refine wp_bind_of (part4 _ _ _ _ ?_)
  refine wp_bind_of (part5 _ _ _ _ ?_)
  refine wp_bind_of (part6 _ _ _ ?_)
  refine wp_bind_of (part7 _ _ _ _ ?_)
  refine wp_bind_of (part8 _ _ _ ?_)
  refine wp_bind_of (part9 _ _ _ _ ?_)
  refine wp_bind_of (part10 _ _ _ ?_)
  refine wp_bind_of (part11 _ _ _ _ ?_)
  refine wp_bind_of (part12 _ _ _ ?_)
  refine wp_bind_of (part13 _ _ _ _ ?_)
  refine wp_bind_of (part14 _ _ _ ?_)
  refine wp_bind_of (part15 _ _ _ ?_)
  refine BIBase.Entails.trans (Q := iprop(St m true c (seg16 c (seg17 c (seg18 c (seg19 c (seg20 c (seg21 c (seg22 c (seg23 c []))))))))
    ∗ mpt c qM fullShare q ∗ mpt c (oB (qf c)) fullShare o ∗ (on (fun p => ¬ gA c p) (aR m c) ∗ dmaPay m c (.inn 0) ∗ dmaPay m c (.inn 1) ∗ yRest m c ∗ P))) ?_ ?_
  · iintro ⟨H, Hr, Hq, Ho, H0, H1, Hy, HP⟩
    isplitl [H]; · iexact H
    isplitl [Hq]; · iexact Hq
    isplitl [Ho]; · iexact Ho
    isplitl [Hr]; · iexact Hr
    isplitl [H0]; · iexact H0
    isplitl [H1]; · iexact H1
    iframe
  refine wp_bind_of (part16 _ _ _ (fun r => ?_))
  refine BIBase.Entails.trans (Q := iprop(St m true c (seg17 c (seg18 c (seg19 c (seg20 c (seg21 c (seg22 c (seg23 c [])))))))
    ∗ mpt c qM (qsh 2) (KProof.Q m c) ∗ mpt c qM (qsh 3) (KProof.Q m c)
    ∗ (ownP m c ∗ ownM m c ∗ on (fun p => ¬ gA c p) (aR m c) ∗ dmaPay m c (.inn 0) ∗ dmaPay m c (.inn 1) ∗ yRest m c ∗ P))) ?_ ?_
  · iintro ⟨H, Hp, Hm, H2, H3, HP⟩
    isplitl [H]; · iexact H
    isplitl [H2]; · iexact H2
    isplitl [H3]; · iexact H3
    isplitl [Hp]; · iexact Hp
    isplitl [Hm] <;> iassumption
  refine wp_bind_of (part17 _ _ _ _ _ _ (fun r => ?_))
  refine wp_bind_of (part18 _ _ _ ?_)
  refine wp_bind_of (part19 ?_)
  refine wp_bind_of (part20 ?_)
  refine wp_bind_of (part21 ?_)
  refine wp_bind_of (part22 ?_)
  refine w_if (hN := m_credit _ _) (hj := ?_)
  refine w_kept (k := .gs 0) rfl q_credit ?_
  refine w_kept (k := .gs 1) rfl q_credit ?_
  refine w_kept (k := .gs 2) rfl q_credit ?_
  exact wp_pure_of hj

end Cert.KProof
-- ==== Proof.Exit.lean ====
/-
  The end of a device's run: what it still holds, put together again.

  After its last step a device holds the payloads of the waits it made, its part of the exchange buffers that took no part,
  and the shares of its own product; together they are the two arguments unchanged, the result whole, and every scratch
  buffer at some contents.
-/
module

public import proofs.«01_k».proof.Proof.Body

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {c : Dev nD}

/-- The payloads a device still holds at the end, in a fixed order. -/
def keptAt (c : Dev nD) : List Dk :=
  [.gs 0, .gs 1, .gs 2, .gr 0, .gr 1, .gr 2, .out] ++ (((rh.filter fun p => zz c < p.1.val).map fun p => Dk.ps p.1 p.2)
    ++ ((rh.filter fun p => p.1.val < zz c).map fun p => Dk.ms p.1 p.2))

set_option maxRecDepth 20000 in
theorem keptAt_perm (c : Dev nD) : (keptAt c).Perm (fin c).2.2 := by revert c; decide +kernel
theorem keptAt_nodup (c : Dev nD) : (keptAt c).Nodup := by revert c; decide +kernel

theorem kept_split : bigSepL (fin c).2.2 (dmaPay m c) ⊢ iprop(bigSepL [Dk.gs 0, .gs 1, .gs 2, .gr 0, .gr 1, .gr 2, .out] (dmaPay m c)
    ∗ on (fun p => zz c < p.1.val) (fun p => dmaPay m c (.ps p.1 p.2)) ∗ on (fun p => p.1.val < zz c) (fun p => dmaPay m c (.ms p.1 p.2))) := by
  rw [← bigSepL_reorder (keptAt_perm c) (keptAt_nodup c)]
  unfold keptAt
  rw [bigSepL_append, bigSepL_append, bigSepL_map, bigSepL_map, on_list, on_list]

/-- The row of its own that a device combined from, as half rows. -/
theorem own_on (B : Memref sig .tc .vmem S512x512 .f32) (g : Prop) [Decidable g] (f : Buf (Elt F) (B.view.loc (c : Thread nD τ))) :
    (if g then mpt c (rB B (zf c)) fullShare f else iprop(emp)) ⊢ on (fun p => g ∧ p.1.val = zz c) (anyB (F := F) c B) := by
  by_cases hg : g
  · rw [if_pos hg, on_list, row_split]
    have hl : (rh.filter fun p => decide (g ∧ p.1.val = zz c)) = [(zf c, 0), (zf c, 1)] := by
      simp only [hg, true_and]; clear * -; revert c; decide +kernel
    rw [hl]
    show _ ⊢ iprop(anyB (F := F) c B (zf c, 0) ∗ anyB (F := F) c B (zf c, 1))
    iintro ⟨H0, H1⟩
    isplitl [H0]
    · iexists f; iexact H0
    · iexists f; iexact H1
  · rw [if_neg hg]
    refine pieces_emp fun p _ => ?_
    beta_reduce
    rw [if_neg fun h => hg h.1]

/-- Three families over the half rows, joined piece by piece into a whole buffer and what belongs elsewhere. -/
theorem join_three (B : Memref sig .tc .vmem S512x512 .f32) (f₀ : Buf (Elt F) (B.view.loc (c : Thread nD τ)))
    {g₁ g₂ g₃ g₄ : Fin 4 × Fin 2 → Prop} [DecidablePred g₁] [DecidablePred g₂] [DecidablePred g₃] [DecidablePred g₄] {Φ Ψ : Fin 4 × Fin 2 → sProp 𝕄}
    (h : ∀ p, iprop((if g₁ p then Φ p else iprop(emp)) ∗ (if g₂ p then anyB (F := F) c B p else iprop(emp)) ∗ (if g₃ p then anyB (F := F) c B p else iprop(emp)))
      ⊢ iprop(anyB (F := F) c B p ∗ (if g₄ p then Ψ p else iprop(emp)))) :
    iprop(on g₁ Φ ∗ on g₂ (anyB (F := F) c B) ∗ on g₃ (anyB (F := F) c B)) ⊢ iprop((∃ f, mpt c B fullShare f) ∗ on g₄ Ψ) := by
  unfold on
  rw [← bigSep_sep' Finset.univ, ← bigSep_sep' Finset.univ]
  refine (pieces_mono fun p _ => h p).trans ?_
  rw [bigSep_sep' Finset.univ]
  exact sep_mono_left (sq_join B c f₀)

/-- The plus buffer whole again, and the half rows of the own product sent up from there. -/
theorem plus_end : iprop(on (fun p => zz c < p.1.val) (fun p => dmaPay m c (.ps p.1 p.2)) ∗ ownP m c ∗ on (fun p => ¬ gP c p) (anyB (F := F) c pM))
    ⊢ iprop((∃ f, mpt c pM fullShare f) ∗ on (fun p => zz c = 0 ∧ 0 < p.1.val) (aR m c)) := by
  refine BIBase.Entails.trans (Q := iprop(on (fun p => zz c < p.1.val) (fun p => dmaPay m c (.ps p.1 p.2))
    ∗ on (fun p => 0 < zz c ∧ p.1.val = zz c) (anyB (F := F) c pM) ∗ on (fun p => ¬ gP c p) (anyB (F := F) c pM))) ?_ ?_
  · exact sep_mono_right (sep_mono_left (own_on pM (0 < zz c) (PP m (dn c))))
  refine join_three pM (PP m c) fun p => ?_
  show iprop((if zz c < p.1.val then (if zz c = 0 then mpt c (aB p.1 p.2) fullShare.right (ACC m c) else mpt c (pB p.1 p.2) fullShare (PP m c)) else iprop(emp)) ∗ _ ∗ _) ⊢ _
  by_cases hz : zz c = 0
  · have h2 : ¬ (0 < zz c ∧ p.1.val = zz c) := fun h => by omega
    have h3 : ¬ gP c p := fun h => by have := h.1; omega
    by_cases hp : 0 < p.1.val
    · have h1 : zz c < p.1.val := by omega
      simp only [if_pos h1, if_pos hz, if_neg h2, if_pos h3, if_pos (show zz c = 0 ∧ 0 < p.1.val from ⟨hz, hp⟩)]
      iintro ⟨H1, -, H3⟩
      isplitl [H3] <;> iassumption
    · have h1 : ¬ zz c < p.1.val := by omega
      simp only [if_neg h1, if_neg h2, if_pos h3, if_neg (show ¬ (zz c = 0 ∧ 0 < p.1.val) from fun h => hp h.2)]
      iintro ⟨-, -, H3⟩
      isplitl [H3]; · iexact H3
      iempintro
  · have h4 : ¬ (zz c = 0 ∧ 0 < p.1.val) := fun h => hz h.1
    rcases lt_trichotomy (zz c) p.1.val with h | h | h
    · have h2 : ¬ (0 < zz c ∧ p.1.val = zz c) := fun h => by omega
      have h3 : gP c p := ⟨by omega, by omega⟩
      simp only [if_pos h, if_neg hz, if_neg h2, if_neg (not_not.mpr h3), if_neg h4]
      iintro ⟨H1, -, -⟩
      isplitl [H1]; · iexists PP m c; iexact H1
      iempintro
    · have h1 : ¬ zz c < p.1.val := by omega
      have h2 : 0 < zz c ∧ p.1.val = zz c := ⟨by omega, h.symm⟩
      have h3 : gP c p := ⟨by omega, by omega⟩
      simp only [if_neg h1, if_pos h2, if_neg (not_not.mpr h3), if_neg h4]
      iintro ⟨-, H2, -⟩
      isplitl [H2]; · iexact H2
      iempintro
    · have h1 : ¬ zz c < p.1.val := by omega
      have h2 : ¬ (0 < zz c ∧ p.1.val = zz c) := fun h => by omega
      have h3 : ¬ gP c p := fun h => by have := h.2; omega
      simp only [if_neg h1, if_neg h2, if_pos h3, if_neg h4]
      iintro ⟨-, -, H3⟩
      isplitl [H3]; · iexact H3
      iempintro

/-- The minus buffer whole again, and the half rows of the own product sent down from there. -/
theorem minus_end : iprop(on (fun p => p.1.val < zz c) (fun p => dmaPay m c (.ms p.1 p.2)) ∗ ownM m c ∗ on (fun p => ¬ gM c p) (anyB (F := F) c mM))
    ⊢ iprop((∃ f, mpt c mM fullShare f) ∗ on (fun p => zz c = 3 ∧ p.1.val < 3) (aR m c)) := by
  refine BIBase.Entails.trans (Q := iprop(on (fun p => p.1.val < zz c) (fun p => dmaPay m c (.ms p.1 p.2))
    ∗ on (fun p => zz c < 3 ∧ p.1.val = zz c) (anyB (F := F) c mM) ∗ on (fun p => ¬ gM c p) (anyB (F := F) c mM))) ?_ ?_
  · exact sep_mono_right (sep_mono_left (own_on mM (zz c < 3) (MM m (up c))))
  refine join_three mM (MM m c) fun p => ?_
  show iprop((if p.1.val < zz c then (if zz c = 3 then mpt c (aB p.1 p.2) fullShare.right (ACC m c) else mpt c (mB p.1 p.2) fullShare (MM m c)) else iprop(emp)) ∗ _ ∗ _) ⊢ _
  have hr : p.1.val < 4 := p.1.isLt
  have hc : zz c < 4 := (zf c).isLt
  by_cases hz : zz c = 3
  · have h2 : ¬ (zz c < 3 ∧ p.1.val = zz c) := fun h => by omega
    have h3 : ¬ gM c p := fun h => by have := h.1; omega
    by_cases hp : p.1.val < 3
    · have h1 : p.1.val < zz c := by omega
      simp only [if_pos h1, if_pos hz, if_neg h2, if_pos h3, if_pos (show zz c = 3 ∧ p.1.val < 3 from ⟨hz, hp⟩)]
      iintro ⟨H1, -, H3⟩
      isplitl [H3] <;> iassumption
    · have h1 : ¬ p.1.val < zz c := by omega
      simp only [if_neg h1, if_neg h2, if_pos h3, if_neg (show ¬ (zz c = 3 ∧ p.1.val < 3) from fun h => hp h.2)]
      iintro ⟨-, -, H3⟩
      isplitl [H3]; · iexact H3
      iempintro
  · have h4 : ¬ (zz c = 3 ∧ p.1.val < 3) := fun h => hz h.1
    rcases lt_trichotomy (zz c) p.1.val with h | h | h
    · have h1 : ¬ p.1.val < zz c := by omega
      have h2 : ¬ (zz c < 3 ∧ p.1.val = zz c) := fun h => by omega
      have h3 : ¬ gM c p := fun h => by have := h.2; omega
      simp only [if_neg h1, if_neg h2, if_pos h3, if_neg h4]
      iintro ⟨-, -, H3⟩
      isplitl [H3]; · iexact H3
      iempintro
    · have h1 : ¬ p.1.val < zz c := by omega
      have h2 : zz c < 3 ∧ p.1.val = zz c := ⟨by omega, h.symm⟩
      have h3 : gM c p := ⟨by omega, by omega⟩
      simp only [if_neg h1, if_pos h2, if_neg (not_not.mpr h3), if_neg h4]
      iintro ⟨-, H2, -⟩
      isplitl [H2]; · iexact H2
      iempintro
    · have h2 : ¬ (zz c < 3 ∧ p.1.val = zz c) := fun h => by omega
      have h3 : gM c p := ⟨by omega, by omega⟩
      simp only [if_pos h, if_neg hz, if_neg h2, if_neg (not_not.mpr h3), if_neg h4]
      iintro ⟨H1, -, -⟩
      isplitl [H1]; · iexists MM m c; iexact H1
      iempintro

/-- The own product whole again. -/
theorem acc_end : iprop(accL m true c ∗ on (fun p => zz c = 0 ∧ 0 < p.1.val) (aR m c) ∗ on (fun p => zz c = 3 ∧ p.1.val < 3) (aR m c) ∗ on (fun p => ¬ gA c p) (aR m c))
    ⊢ mpt c aM fullShare (ACC m c) := by
  have ha : iprop(on (fun p => zz c = 0 ∧ 0 < p.1.val) (aR m c) ∗ on (fun p => zz c = 3 ∧ p.1.val < 3) (aR m c)) ⊢ on (gA c) (aR m c) := by
    unfold on
    rw [← bigSep_sep' Finset.univ]
    refine pieces_mono fun p _ => ?_
    beta_reduce
    by_cases h0 : zz c = 0 ∧ 0 < p.1.val
    · rw [if_pos h0, if_pos (show gA c p from Or.inl h0)]
      iintro ⟨H, -⟩; iexact H
    · by_cases h3 : zz c = 3 ∧ p.1.val < 3
      · rw [if_pos h3, if_pos (show gA c p from Or.inr h3)]
        iintro ⟨-, H⟩; iexact H
      · rw [if_neg (show ¬ gA c p from fun h => h.elim h0 h3)]; exact drop_all (F := F)
  have hr : iprop(on (gA c) (aR m c) ∗ on (fun p => ¬ gA c p) (aR m c)) ⊢ mpt c aM fullShare.right (ACC m c) :=
    Entails.of_eq ((sq_split aM c fullShare.right (ACC m c)).trans (on_split (gA c) (aR m c))).symm
  refine BIBase.Entails.trans (Q := iprop(mpt c aM fullShare.left (ACC m c) ∗ mpt c aM fullShare.right (ACC m c))) ?_
    (pointsTo_share (PosShare.mem_left_op_right fullShare)).2
  iintro ⟨HL, H0, H3, HN⟩
  isplitl [HL]; · iapply (Entails.of_eq (show accL m true c = mpt c aM fullShare.left (ACC m c) from if_pos rfl)); iexact HL
  iapply hr
  isplitr [HN]
  · iapply ha
    isplitl [H0] <;> iassumption
  · iexact HN

/-- The nine memories of a device at the end: the arguments as they were, the result, the scratch at some contents. -/
def memEnd (m : (ℓ : Loc nD τ sig) → Buf (Elt F) ℓ) (c : Dev nD) : sProp 𝕄 :=
  iprop(mpt c xA fullShare (m ((c : Thread nD τ).loc main_arg0)) ∗ mpt c yA fullShare (m ((c : Thread nD τ).loc main_arg1))
    ∗ mpt c oA fullShare (OUT m c) ∗ (∃ f, mpt (F := F) c aM fullShare f) ∗ (∃ f, mpt (F := F) c pM fullShare f) ∗ (∃ f, mpt (F := F) c mM fullShare f)
    ∗ (∃ f, mpt (F := F) c qM fullShare f) ∗ (∃ f, mpt (F := F) c xM fullShare f) ∗ (∃ f, mpt (F := F) c dM fullShare f))

theorem out_end : bigSepL [Dk.gs 0, .gs 1, .gs 2, .gr 0, .gr 1, .gr 2, .out] (dmaPay m c)
    ⊢ iprop(mpt c oA fullShare (OUT m c) ∗ mpt c qM fullShare (KProof.Q m c)) := by
  rw [out_split, four_cols c, q_shares]
  show iprop(mpt c qM (qsh 1) (KProof.Q m c) ∗ mpt c qM (qsh 2) (KProof.Q m c) ∗ mpt c qM (qsh 3) (KProof.Q m c)
    ∗ mpt c (oB (qf (peer c 0))) fullShare (OUT m c) ∗ mpt c (oB (qf (peer c 1))) fullShare (OUT m c) ∗ mpt c (oB (qf (peer c 2))) fullShare (OUT m c)
    ∗ (mpt c (oB (qf c)) fullShare (OUT m c) ∗ mpt c qM (qsh 0) (KProof.Q m c))) ⊢ _
  iintro ⟨G0, G1, G2, O0, O1, O2, O, G⟩
  isplitl [O0 O1 O2 O]
  · isplitl [O]; · iexact O
    isplitl [O0]; · iexact O0
    isplitl [O1] <;> iassumption
  · isplitl [G G0]
    · isplitl [G] <;> iassumption
    · isplitl [G1] <;> iassumption

/-- After its last step a device owes nothing, the counters of the semaphores it waited for are zero, and its memory is
    whole. -/
theorem st_end : iprop(St m true c [] ∗ ownP m c ∗ ownM m c ∗ on (fun p => ¬ gA c p) (aR m c) ∗ dmaPay m c (.inn 0) ∗ dmaPay m c (.inn 1) ∗ yRest m c
      ∗ on (fun p => ¬ gP c p) (anyB (F := F) c pM) ∗ on (fun p => ¬ gM c p) (anyB (F := F) c mM))
    ⊢ iprop((∃ W, owes (c : Thread nD τ) 0 W) ∗ bigSepL (fin c).2.1 (zro (F := F) c) ∗ memEnd m c) := by
  unfold St
  iintro ⟨⟨%K, %T, %S, %Kp, %W, %hrun, -, -, HO, -, -, HS, HKp, Ha⟩, HP, HM, HN, Hi0, Hi1, HY, HnP, HnM⟩
  have hfin : (T, S, Kp) = fin c := Option.some.inj hrun
  have hS : S = (fin c).2.1 := congrArg (fun s => s.2.1) hfin
  have hKp : Kp = (fin c).2.2 := congrArg (fun s => s.2.2) hfin
  subst hS hKp
  isplitl [HO]; · iexists W; iexact HO
  isplitl [HS]; · iexact HS
  ihave H := (kept_split (m := m) (c := c)) $$ HKp
  icases H with ⟨HG, Hps, Hms⟩
  ihave H := (plus_end (m := m) (c := c)) $$ [Hps HP HnP]
  · isplitl [Hps]; · iexact Hps
    isplitl [HP] <;> iassumption
  icases H with ⟨HpM, H0⟩
  ihave H := (minus_end (m := m) (c := c)) $$ [Hms HM HnM]
  · isplitl [Hms]; · iexact Hms
    isplitl [HM] <;> iassumption
  icases H with ⟨HmM, H3⟩
  ihave HaM := (acc_end (m := m) (c := c)) $$ [Ha H0 H3 HN]
  · isplitl [Ha]; · iexact Ha
    isplitl [H0]; · iexact H0
    isplitl [H3] <;> iassumption
  ihave H := (out_end (m := m) (c := c)) $$ HG
  icases H with ⟨HoA, HqM⟩
  ihave Hi0 := (Entails.of_eq (show dmaPay m c (.inn 0) = iprop(mpt c xM fullShare (X m c) ∗ mpt c xA fullShare (m ((c : Thread nD τ).loc main_arg0))) from rfl)) $$ Hi0
  icases Hi0 with ⟨HxM, HxA⟩
  ihave Hi1 := (Entails.of_eq (show dmaPay m c (.inn 1) = iprop(mpt c dM fullShare (DY m c) ∗ mpt c (yB (qf c)) fullShare (m ((c : Thread nD τ).loc main_arg1))) from rfl)) $$ Hi1
  icases Hi1 with ⟨HdM, HyB⟩
  ihave HyA := (y_uncut (m := m) c) $$ [HyB HY]
  · isplitl [HyB] <;> iassumption
  unfold memEnd
  isplitl [HxA]; · iexact HxA
  isplitl [HyA]; · iexact HyA
  isplitl [HoA]; · iexact HoA
  isplitl [HaM]; · iexists _; iexact HaM
  isplitl [HpM]; · iexact HpM
  isplitl [HmM]; · iexact HmM
  isplitl [HqM]; · iexists _; iexact HqM
  isplitl [HxM]; · iexists _; iexact HxM
  iexists _; iexact HdM

end Cert.KProof
-- ==== Proof.Count.lean ====
/-
  Which tokens a device's steps pay, which semaphores they wait for, and how often each is owed; counted over the mesh.
-/
module

public import proofs.«01_k».proof.Proof.Sched

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Tokens and positions of a list of steps -/

/-- The tokens device `c` pays in the steps: (device, semaphore, duty). -/
def toks (c : Dev nD) : List Ev → List (Dev nD × Option Dk × Fin 5)
  | [] => []
  | .copy k :: l => (c, some k, 0) :: toks c l
  | .sig n d :: l => (n, none, d) :: toks c l
  | .send ks n kr :: l => (c, some ks, 0) :: (n, some kr, 0) :: toks c l
  | .wait _ :: l => toks c l
  | .take _ :: l => toks c l

/-- The semaphores the steps wait for. -/
def waited : List Ev → List (Option Dk)
  | [] => []
  | .wait k :: l => k :: waited l
  | .copy _ :: l => waited l
  | .sig _ _ :: l => waited l
  | .send _ _ _ :: l => waited l
  | .take _ :: l => waited l

/-- How often a semaphore is owed. -/
def cnt (x : Dev nD × Option Dk) : List (Dev nD × Option Dk) → ℕ
  | [] => 0
  | y :: l => cnt x l + if y = x then 1 else 0

/-- The device that pays a token. -/
def payer (x : Dev nD × Option Dk × Fin 5) : Dev nD := match x.2.1 with
  | none => match x.2.2 with
    | 0 => peer x.1 0 | 1 => peer x.1 1 | 2 => peer x.1 2 | 3 => dn x.1 | 4 => up x.1
  | some (.pr _ _) => dn x.1
  | some (.mr _ _) => up x.1
  | some (.gr i) => peer x.1 i
  | some _ => x.1

/-- The semaphores a device uses. -/
def used (c : Dev nD) : Option Dk → Bool
  | none => true
  | some k => act c k

set_option maxRecDepth 20000 in
theorem toks_payer_all (c : Dev nD) : ((toks c (events c)).all fun x => decide (payer x = c)) = true := by revert c; decide +kernel
theorem toks_payer (c : Dev nD) (x : Dev nD × Option Dk × Fin 5) (hx : x ∈ toks c (events c)) : payer x = c :=
  of_decide_eq_true (List.all_eq_true.mp (toks_payer_all c) x hx)
set_option maxRecDepth 20000 in
theorem toks_nodup (c : Dev nD) : (toks c (events c)).Nodup := by revert c; decide +kernel
set_option maxRecDepth 20000 in
theorem waited_nodup (c : Dev nD) : (waited (events c)).Nodup := by revert c; decide +kernel
set_option maxRecDepth 20000 in
theorem waited_used (c : Dev nD) : ∀ k, k ∈ waited (events c) ↔ used c k = true := by revert c; decide +kernel
set_option maxRecDepth 20000 in
theorem done_nodup (c : Dev nD) : (fin c).2.1.Nodup := by revert c; decide +kernel
set_option maxRecDepth 20000 in
theorem done_used (c : Dev nD) : ∀ k, k ∈ (fin c).2.1 ↔ used c k = true := by revert c; decide +kernel
set_option maxRecDepth 20000 in
theorem given_nodup (c : Dev nD) : (given c).Nodup := by revert c; decide +kernel
set_option maxRecDepth 20000 in
theorem owed_count (c : Dev nD) : ∀ k ∈ given c, ∑ d : Dev nD, cnt (c, k) (owedL (events d)) = (dut c k).card := by revert c; decide +kernel

end Cert.KProof
-- ==== Proof.Deal.lean ====
/-
  What the launch deals each device, and the state a device starts from.

  A device is dealt its positions at its own semaphores, the tokens of exactly the signals and transfers its steps make,
  and credit for what the other devices owe its semaphores.  The semaphores it has no use for are closed at once.
-/
module

public import proofs.«01_k».proof.Proof.Exit
public import proofs.«01_k».proof.Proof.Count
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Tokens and positions of a list of steps -/

def tok (x : Dev nD × Option Dk × Fin 5) : sProp 𝕄 := dutyTok ER (cell x.1 x.2.1) 0 x.2.2
def pos (c : Dev nD) (k : Option Dk) : sProp 𝕄 := atPos ER (cell c k) 0 ∅ 0

/-- The tokens and positions of the steps are what the steps need before the barrier. -/
theorem res_intro (c : Dev nD) (l : List Ev) : iprop(bigSepL (toks c l) (tok (F := F)) ∗ bigSepL (waited l) (pos c)) ⊢ bigSepL l (res m false c) := by
  induction l with
  | nil => exact (sep_emp (PROP := sProp 𝕄)).1
  | cons e l ih =>
    rw [bigSepL_cons']
    have ht : ∀ x, tok x ⊢ (dutyTok ER (cell x.1 x.2.1) 0 x.2.2 : sProp 𝕄) := fun x => Entails.refl _
    cases e with
    | copy k =>
      show iprop(bigSepL ((c, some k, 0) :: toks c l) tok ∗ bigSepL (waited l) (pos c)) ⊢ _
      rw [bigSepL_cons']
      iintro ⟨⟨H1, H⟩, Hw⟩
      isplitl [H1]; · iapply (show tok (c, some k, 0) ⊢ res m false c (.copy k) from ht _); iexact H1
      iapply ih; isplitl [H] <;> iassumption
    | sig n d =>
      show iprop(bigSepL ((n, none, d) :: toks c l) tok ∗ bigSepL (waited l) (pos c)) ⊢ _
      rw [bigSepL_cons']
      iintro ⟨⟨H1, H⟩, Hw⟩
      isplitl [H1]; · iapply (show tok (n, none, d) ⊢ res m false c (.sig n d) from ht _); iexact H1
      iapply ih; isplitl [H] <;> iassumption
    | send ks n kr =>
      show iprop(bigSepL ((c, some ks, 0) :: (n, some kr, 0) :: toks c l) tok ∗ bigSepL (waited l) (pos c))
        ⊢ iprop((dutyTok ER (cell c (some ks)) 0 0 ∗ dutyTok ER (cell n (some kr)) 0 0 ∗ emp) ∗ _)
      rw [bigSepL_cons', bigSepL_cons']
      iintro ⟨⟨H1, H2, H⟩, Hw⟩
      isplitl [H1 H2]
      · isplitl [H1]; · iapply (ht (c, some ks, 0)); iexact H1
        isplitl [H2]; · iapply (ht (n, some kr, 0)); iexact H2
        iempintro
      iapply ih; isplitl [H] <;> iassumption
    | wait k =>
      show iprop(bigSepL (toks c l) tok ∗ bigSepL (k :: waited l) (pos c)) ⊢ _
      rw [bigSepL_cons']
      iintro ⟨H, H1, Hw⟩
      isplitl [H1]; · iapply (show pos c k ⊢ res m false c (.wait k) from Entails.refl _); iexact H1
      iapply ih; isplitl [H] <;> iassumption
    | take k =>
      show iprop(bigSepL (toks c l) tok ∗ bigSepL (waited l) (pos c)) ⊢ iprop(emp ∗ _)
      iintro H
      isplitr; · iempintro
      iapply ih; iexact H

/-! ## Used and unused semaphores -/

/-- A family over a device's semaphores: the used ones, listed anyhow, and the others. -/
theorem used_split (c : Dev nD) (l : List (Option Dk)) (hn : l.Nodup) (hl : ∀ k, k ∈ l ↔ used c k = true) (Φ : Option Dk → sProp 𝕄) :
    bigSep Finset.univ Φ = iprop(bigSepL l Φ ∗ bigSep (Finset.univ.filter fun k => ¬ used c k = true) Φ) := by
  have hl' : l.toFinset = Finset.univ.filter fun k => used c k = true := by
    ext k; rw [List.mem_toFinset, hl, Finset.mem_filter]; exact ⟨fun h => ⟨Finset.mem_univ _, h⟩, fun h => h.2⟩
  have h := bigSep_union (Φ := Φ) (Finset.disjoint_filter_filter_not (Finset.univ : Finset (Option Dk)) Finset.univ fun k => used c k = true)
  rw [Finset.filter_union_filter_not_eq] at h
  rw [← bigSep_eq_bigSepL l hn Φ, hl']
  exact h

theorem unused_duties (c : Dev nD) (k : Option Dk) (h : ¬ used c k = true) : ∀ r, 0 ≤ r → (Rd m).duties (cell c k) r = ∅ := fun r _ => by
  rcases Nat.eq_zero_or_pos r with rfl | hr
  · rw [Rd_duties]
    cases k with
    | none => exact absurd rfl h
    | some k => exact if_neg h
  · exact Rd_later m _ r hr

theorem close_unused (K : Dev nD × Option Dk → ℕ) (c : Dev nD) :
    iprop(records m K ∗ bigSep (Finset.univ.filter fun k => ¬ used c k = true) (pos c))
      ⊢ |={Set.univ}=> (bigSep (Finset.univ.filter fun k => ¬ used c k = true) (zro c) : sProp 𝕄) := by
  refine (sep_mono_left (BI.bigSep_of_persistent (Finset.univ.filter fun k => ¬ used c k = true) (records m K))).trans ?_
  rw [← bigSep_sep']
  refine (pieces_mono fun k hk => ?_).trans (bigSep_fupd _ _)
  beta_reduce
  unfold pos zro
  iintro ⟨HR, Hat⟩
  ihave H := (records_at m K (c, k)) $$ HR
  icases H with ⟨HI, -⟩
  iapply (Rounds.cell_close ER (Rd m) (Set.mem_univ (K (c, k))) (fun h => h) (R := 0) (unused_duties m c k (Finset.mem_filter.mp hk).2))
  isplitl [HI] <;> iassumption

/-! ## Dealing -/

theorem cell_injective : Function.Injective fun p : Dev nD × Option Dk => cell p.1 p.2 := by
  rintro ⟨c, k⟩ ⟨c', k'⟩ h
  have := cell_inj h
  exact Prod.ext this.1 this.2

theorem csem_injective : Function.Injective csem := fun k k' h => by rw [← kindOf_csem k, ← kindOf_csem k', h]

def tokAt (x : Dev nD × Option Dk × Fin 5) : GSem nD τ sig × ℕ × Fin 5 := (cell x.1 x.2.1, 0, x.2.2)
theorem tokAt_injective : Function.Injective tokAt := by
  rintro ⟨c, k, d⟩ ⟨c', k', d'⟩ h
  have h1 := cell_inj (congrArg Prod.fst h)
  have h2 : d = d' := congrArg (fun y : GSem nD τ sig × ℕ × Fin 5 => y.2.2) h
  exact Prod.ext h1.1 (Prod.ext h1.2 h2)

def ringCells : Finset (GSem nD τ sig) := Finset.univ.map ⟨fun p : Dev nD × Option Dk => cell p.1 p.2, cell_injective⟩
def ringToks : Finset (GSem nD τ sig × ℕ × Fin 5) := (Finset.univ.biUnion fun c : Dev nD => (toks c (events c)).toFinset).map ⟨tokAt, tokAt_injective⟩

def u₀ : UU := (initOf (Pipeline.cells cfgs cellOf_inj) (Pipeline.launchToks cfgs cellOf_inj), initOf ringCells ringToks)

/-- What the launch deals a device. -/
def G (c : Dev nD) : sProp 𝕄 :=
  iprop((bigSep Finset.univ fun k : Option Dk => roundState ER (Rd m) (cell c k) 0)
    ∗ (bigSep Finset.univ fun k : Option Dk => iprop(pos c k ∗ reached ER (cell c k) 0)) ∗ bigSepL (toks c (events c)) tok)

/-- What it has once every semaphore's invariant is made. -/
def G' (c : Dev nD) : sProp 𝕄 := iprop(∃ K, records m K ∗ bigSep Finset.univ (pos (F := F) c) ∗ bigSepL (toks c (events c)) tok)

theorem deal_toks : bigSep ringToks (fun x => (dutyTok ER x.1 x.2.1 x.2.2 : sProp 𝕄)) = bigSep Finset.univ fun c : Dev nD => bigSepL (toks c (events c)) tok := by
  unfold ringToks
  rw [bigSep_map, bigSep_biUnion_eq Finset.univ (fun c : Dev nD => (toks c (events c)).toFinset) _ fun c _ c' _ hc => Finset.disjoint_left.mpr fun x hx hx' =>
    hc ((toks_payer c x (List.mem_toFinset.mp hx)).symm.trans (toks_payer c' x (List.mem_toFinset.mp hx')))]
  exact bigSep_congr fun c _ => bigSep_eq_bigSepL _ (toks_nodup c) _

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option Dk => Φ (cell c k) := by
    unfold ringCells; rw [bigSep_map, bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq (deal_toks (F := F))) $$ Htok
  unfold G; simp only [bigSep_sep']
  isplitl [Hst]; · iexact Hst
  isplitl [Hat Hr]
  · isplitl [Hat]
    · iapply (Entails.of_eq (show (bigSep Finset.univ fun c : Dev nD => bigSep Finset.univ fun k : Option Dk => atPos ER (cell c k) 0 ∅ 0) = bigSep Finset.univ fun c : Dev nD => bigSep Finset.univ (pos (F := F) c) from rfl)); iexact Hat
    · iexact Hr
  iexact Htok

theorem unscopedSems0_eq (c : Dev nD) : (unscopedSems0 c : sProp 𝕄) = semVal (cell c none) 0 := by
  unfold unscopedSems0; rw [bigSep_eq_bigSepL_of_eq [SemLoc.reg barS] (by decide) (by decide)]; rfl

/-- A device's semaphores: its own transfer semaphores and the barrier. -/
theorem sems0_eq (c : Dev nD) :
    bigSep Finset.univ (zro (F := F) c) = iprop(Pipeline.ownSems0 (Ix := Unit) (Name := ℕ) (U := UU) (Lvl := ℕ) (Val := Elt F) (τ := τ) osem c ∗ unscopedSems0 c) := by
  rw [unscopedSems0_eq]
  have hu : (Finset.univ : Finset (Option Dk)) = insert none (Finset.univ.map Function.Embedding.some) := by
    ext k; cases k <;> simp
  rw [hu, bigSep_insert (by simp), bigSep_map]
  exact equiv_iff.mp ⟨BI.sep_comm, BI.sep_comm⟩

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option Dk => iprop(∃ κ : ℕ, cellInv ER (Rd m) κ (cell c k)))
          ∗ (bigSep Finset.univ fun k : Option Dk => iprop(pos c k ∗ reached ER (cell c k) 0)) ∗ bigSepL (toks c (events c)) tok) := by
  unfold G
  iintro ⟨Hos, Hus, Hst, Hat, Htok⟩
  ihave Hv := (Entails.of_eq (sems0_eq (F := F) c).symm) $$ [Hos Hus]
  · isplitl [Hos] <;> iassumption
  imod (show iprop(bigSep Finset.univ (zro (F := F) c) ∗ bigSep Finset.univ fun k : Option Dk => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Option Dk => iprop(∃ κ : ℕ, cellInv ER (Rd m) κ (cell c k)))
          ∗ (bigSep Finset.univ fun k : Option Dk => iprop(pos c k ∗ reached ER (cell c k) 0)) ∗ bigSepL (toks c (events c)) tok) : sProp 𝕄)
      ⊢ bigSep Finset.univ (G' m) := by
  rw [bigSep_sep', bigSep_sep', ← bigSep_univ_prod (fun ck : Dev nD × Option Dk => iprop(∃ κ : ℕ, cellInv ER (Rd m) κ (cell ck.1 ck.2))),
    bigSep_congr (s := Finset.univ) (fun (c : Dev nD) _ => bigSep_sep' Finset.univ (pos (F := F) c) (fun k => reached ER (cell c k) 0)),
    bigSep_sep', ← bigSep_univ_prod (fun ck : Dev nD × Option Dk => (reached ER (cell ck.1 ck.2) 0 : sProp 𝕄))]
  iintro ⟨HI, ⟨Hat, #HR⟩, Htok⟩
  ihave HK := (BI.bigSep_exists_pi Finset.univ (fun (ck : Dev nD × Option Dk) (κ : ℕ) => (cellInv ER (Rd m) κ (cell ck.1 ck.2) : sProp 𝕄))) $$ HI
  icases HK with ⟨%K, #HI⟩
  iapply (with_persistent (R := records m K) (Φ := fun c : Dev nD => iprop(bigSep Finset.univ (pos (F := F) c) ∗ bigSepL (toks c (events c)) tok)) fun c _ => by
    unfold G'; iintro H; iexists K; iexact H)
  isplitr
  · unfold records; rw [bigSep_sep']
    isplitl; · iexact HI
    iexact HR
  · iapply (Entails.of_eq (bigSep_sep' Finset.univ (fun c : Dev nD => bigSep Finset.univ (pos (F := F) c)) (fun c => bigSepL (toks c (events c)) tok)).symm)
    isplitl [Hat]; · iexact Hat
    iexact Htok

/-- All invariants at once, from every device's semaphores. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Credit -/

/-- What a device owes at the start. -/
def O₀ (c : Dev nD) : CellTallies nD τ sig Unit := tal (owedL (events c))

theorem tal_cell (l : List (Dev nD × Option Dk)) (c : Dev nD) (k : Option Dk) : tal l (cell c k) () = cnt (c, k) l * amt k := by
  induction l with
  | nil => exact (Nat.zero_mul _).symm
  | cons y l ih =>
    rw [tal, Pi.add_apply, Finsupp.add_apply, tallyAt_apply, ih, cnt, Nat.add_mul]
    congr 1
    by_cases hy : y = (c, k)
    · subst hy; rw [if_pos ⟨rfl, rfl⟩, if_pos rfl, Nat.one_mul]
    · rw [if_neg fun h => hy (Prod.ext (cell_inj h.1).1.symm (cell_inj h.1).2.symm), if_neg hy, Nat.zero_mul]

theorem launch_cell (c : Dev nD) (k : Option Dk) (hk : k ∈ given c) :
    tallyOn (cell c k) (launchCredit (Pipeline.owing O₀) 0 (cell c k)) = (tallyAt (cell c k) () (tot c k) : CellTallies nD τ sig Unit) := by
  unfold tallyAt; refine congrArg _ (Finsupp.ext fun u => ?_); cases u
  rw [Pipeline.launchCredit_owing, Finsupp.single_eq_same]
  unfold O₀ tot
  rw [Finset.sum_congr rfl fun d _ => tal_cell (owedL (events d)) c k, ← Finset.sum_mul, owed_count c k hk]

theorem creds (c : Dev nD) : (Pipeline.launchCred O₀ c : sProp 𝕄) ⊢ bigSepL (given c) (crd c) := by
  unfold Pipeline.launchCred
  refine (bigSep_subset (Finset.subset_univ ((given c).toFinset.map ⟨csem, csem_injective⟩))).trans ?_
  rw [bigSep_map, bigSep_eq_bigSepL _ (given_nodup c)]
  refine bigSepL_mono fun k hk => ?_
  unfold crd
  rw [← launch_cell c k hk]
  exact Entails.refl _

end Cert.KProof
-- ==== Proof.Run.lean ====
/-
  The run of the kernel on the whole mesh: every device's body under the launch's invariants, and what the final memory
  holds — both arguments unchanged, each device's result, and every semaphore at zero.
-/
module

public import proofs.«01_k».proof.Proof.Deal
public import proofs.«01_k».proof.Proof.Gen.KernelIdeal.Launch

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The body of a device -/

/-- A device's arguments and result at the launch. -/
def memArgs (c : Dev nD) : sProp 𝕄 :=
  iprop(mpt c xA fullShare (m ((c : Thread nD τ).loc main_arg0)) ∗ mpt c yA fullShare (m ((c : Thread nD τ).loc main_arg1))
    ∗ mpt c oA fullShare (m ((c : Thread nD τ).loc main_v1)))
/-- Its scratch buffers, at some contents. -/
def scratch (c : Dev nD) : sProp 𝕄 :=
  iprop((∃ f, mpt (F := F) c aM fullShare f) ∗ (∃ f, mpt (F := F) c pM fullShare f) ∗ (∃ f, mpt (F := F) c mM fullShare f)
    ∗ (∃ f, mpt (F := F) c qM fullShare f) ∗ (∃ f, mpt (F := F) c xM fullShare f) ∗ (∃ f, mpt (F := F) c dM fullShare f))
/-- What a device starts from beside its scratch. -/
def start (c : Dev nD) : sProp 𝕄 := iprop(G' m c ∗ bigSepL (given c) (crd (F := F) c) ∗ levAts L lv ∗ memArgs m c)
/-- What it ends with. -/
def done (c : Dev nD) : sProp 𝕄 := iprop(bigSep Finset.univ (zro (F := F) c) ∗ memEnd m c)

/-- The first state of a device. -/
theorem st_start (K : Dev nD × Option Dk → ℕ) (c : Dev nD) (W : Waits sig Unit) :
    iprop(records m K ∗ levAts L lv ∗ owes (c : Thread nD τ) (O₀ c) W ∗ (bigSepL (toks c (events c)) (tok (F := F)) ∗ bigSepL (waited (events c)) (pos c))
      ∗ bigSepL (given c) (crd c)) ⊢ St m false c (events c) := by
  refine BIBase.Entails.trans ?_ (St_mk (K := K) (W := W) (run_events c))
  iintro ⟨HR, HL, HO, Ht, Hc⟩
  isplitl [HR]; · iexact HR
  isplitl [HL]; · iexact HL
  isplitl [HO]; · iexact HO
  isplitl [Ht]; · iapply (res_intro m c (events c)); iexact Ht
  isplitl [Hc]; · iexact Hc
  isplitr; · iapply (Entails.of_eq (show (iprop(emp) : sProp 𝕄) = bigSepL [] (zro c) from rfl)); iempintro
  isplitr; · iapply (Entails.of_eq (show (iprop(emp) : sProp 𝕄) = bigSepL [] (dmaPay m c) from rfl)); iempintro
  iapply (Entails.of_eq (show (iprop(emp) : sProp 𝕄) = accL m false c from rfl)); iempintro

/-- The end of the body: everything but the unused semaphores from the last state. -/
theorem end_post (c : Dev nD) : iprop(St m true c [] ∗ ownP m c ∗ ownM m c ∗ on (fun p => ¬ gA c p) (aR m c) ∗ dmaPay m c (.inn 0) ∗ dmaPay m c (.inn 1) ∗ yRest m c
      ∗ (on (fun p => ¬ gP c p) (anyB (F := F) c pM) ∗ on (fun p => ¬ gM c p) (anyB (F := F) c mM)
        ∗ bigSep (Finset.univ.filter fun k => ¬ used c k = true) (zro c)))
    ⊢ iprop((∃ W, owes (c : Thread nD τ) 0 W) ∗ done m c) := by
  iintro ⟨H1, H2, H3, H4, H5, H6, H7, H8, H9, HZ⟩
  ihave H := (st_end (m := m) (c := c)) $$ [H1 H2 H3 H4 H5 H6 H7 H8 H9]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption
  icases H with ⟨HO, HS, HM⟩
  isplitl [HO]; · iexact HO
  unfold done
  isplitr [HM]
  · iapply (Entails.of_eq (used_split c (fin c).2.1 (done_nodup c) (done_used c) (zro (F := F) c)).symm)
    isplitl [HS] <;> iassumption
  · iexact HM

set_option maxHeartbeats 1000000 in
theorem sound_body (c : Dev nD) : iprop((start m c ∗ scratch (F := F) c) ∗ (∃ W, owes (c : Thread nD τ) (O₀ c) W))
    ⊢ WP c (ap (cc0_body (F := F))) (fun _ => iprop((∃ W, owes (c : Thread nD τ) 0 W) ∗ done m c)) := by
  unfold start G' memArgs scratch
  iintro ⟨⟨⟨⟨%K, #HR, Hat, Htok⟩, Hcr, #HL, Hx, Hy, Ho⟩, ⟨%a, Ha⟩, ⟨%p, Hp⟩, ⟨%mm, Hm⟩, ⟨%q, Hq⟩, ⟨%x, Hxm⟩, ⟨%d, Hd⟩⟩, ⟨%W, HO⟩⟩
  ihave H := (Entails.of_eq (used_split c (waited (events c)) (waited_nodup c) (waited_used c) (pos (F := F) c))) $$ Hat
  icases H with ⟨Hw, Hun⟩
  imod (close_unused m K c) $$ [Hun] with HZ
  · isplitr; · iexact HR
    iexact Hun
  ihave HP := (offer_plus c p) $$ Hp
  icases HP with ⟨HbP, HrP⟩
  ihave HM := (offer_minus c mm) $$ Hm
  icases HM with ⟨HbM, HrM⟩
  ihave HO' := (offer_out c (m ((c : Thread nD τ).loc main_v1))) $$ Ho
  icases HO' with ⟨⟨%o, HoB⟩, Hb0, Hb1, Hb2⟩
  iapply (run_body (m := m) (c := c) (P := iprop(on (fun p => ¬ gP c p) (anyB (F := F) c pM) ∗ on (fun p => ¬ gM c p) (anyB (F := F) c mM)
        ∗ bigSep (Finset.univ.filter fun k => ¬ used c k = true) (zro c))) (Q := fun _ => iprop((∃ W, owes (c : Thread nD τ) 0 W) ∗ done m c))
      (f := x) (g := d) (a := a) (q := q) (o := o) (hj := end_post m c))
  isplitl [HO Htok Hw Hcr]
  · iapply (st_start m K c W)
    isplitr; · iexact HR
    isplitr; · iexact HL
    isplitl [HO]; · iexact HO
    isplitl [Htok Hw]
    · isplitl [Htok] <;> iassumption
    iexact Hcr
  isplitl [Hx]; · iexact Hx
  isplitl [Hy]; · iexact Hy
  isplitl [Hxm]; · iexact Hxm
  isplitl [Hd]; · iexact Hd
  isplitl [Hb1]; · iexact Hb1
  isplitl [Hb2]; · iexact Hb2
  isplitl [Hb0]; · iexact Hb0
  isplitl [HbP]; · iexact HbP
  isplitl [HbM]; · iexact HbM
  isplitl [Ha]; · iexact Ha
  isplitl [Hq]; · iexact Hq
  isplitl [HoB]; · iexact HoB
  isplitl [HrP]; · iexact HrP
  isplitl [HrM] <;> iassumption

/-! ## The launch -/

theorem ownSemFacts : Pipeline.OwnSemFacts cfg0.spec osem := by decide +kernel

/-- The proof data of the one pallas_call: no windows, the state before its only point and after it. -/
def dats (_ : Fin 1) (c : Dev nD) : Dat τ (Elt F) Unit ℕ UU ℕ cfg0 c where
  A w := w.elim0
  after w _ := w.elim0
  Φ t := match t with
    | ⟨0, _⟩ => iprop(start m c ∗ scratch (F := F) c)
    | ⟨_ + 1, _⟩ => done m c
  q _ := fullShare
  owed t := match t with
    | ⟨0, _⟩ => O₀ c
    | ⟨_ + 1, _⟩ => 0

theorem body_obligation (c : Dev nD) : BodyObligation (dats m 0 c) (defs₀ (F := F)) 𝒱₀ () Set.univ := fun t => by
  rw [fin_N0 t]
  show iprop((start m c ∗ scratch (F := F) c) ∗ (dats m 0 c).owesAt () t0_0.castSucc ∗ _)
    ⊢ WP c (ap (cc0_body (F := F))) (fun _ => iprop(done m c ∗ (dats m 0 c).owesAt () t0_0.succ ∗ _))
  have hpost : iprop((∃ W, owes (c : Thread nD τ) 0 W) ∗ done m c) ⊢ iprop(done m c ∗ (dats m 0 c).owesAt () t0_0.succ ∗ emp) := by
    iintro ⟨⟨%W, HO⟩, HD⟩
    isplitl [HD]; · iexact HD
    isplitl [HO]
    · iexists W
      isplitr; · ipureintro; exact fun _ _ => Or.inl trivial
      iexact HO
    iempintro
  refine BIBase.Entails.trans (Q := iprop((start m c ∗ scratch (F := F) c) ∗ (∃ W, owes (c : Thread nD τ) (O₀ c) W))) ?_ ?_
  · iintro ⟨HS, ⟨%W, -, HO⟩, -⟩
    isplitl [HS]; · iexact HS
    iexists W; iexact HO
  · refine (sound_body m c).trans (wp_mono frame _ _ fun _ => hpost.trans (sep_mono_right (sep_mono_right (pieces_emp fun (w : Fin 0) _ => w.elim0))))

theorem whole_pt (c : Dev nD) (b : Ref sig .tc) (f : Buf (Elt F) ((c : Thread nD τ).loc b)) :
    mpt c (Memref.whole b) fullShare f = (((c : Thread nD τ).loc b) ↦{fullShare} f : sProp 𝕄) := by
  show (((c : Thread nD τ).loc b) ↦[(Memref.whole b).view.set]{fullShare} f : sProp 𝕄) = _
  rw [View.set_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hr : (Pipeline.unscopedRestP (Ix := Unit) (Name := ℕ) (U := UU) (Lvl := ℕ) Pipeline.Prefetch.none cfg0.spec c (fun b => m ((c : Thread nD τ).loc b)) : sProp 𝕄)
      = memArgs m c := by
    rw [Pipeline.unscopedRestP_none, unscopedRest0_eq]
    unfold memArgs
    rw [whole_pt, whole_pt, whole_pt]
  rw [hr]
  iintro ⟨Hm, HL, Hc, -, HG⟩
  ihave Hc := (creds (F := F) c) $$ Hc
  imodintro
  isplitl
  · unfold start
    isplitl [HG]; · iexact HG
    isplitl [Hc]; · iexact Hc
    isplitl [HL] <;> iassumption
  · iempintro

theorem scratch_eq (c : Dev nD) : (Pipeline.scopedRest (Ix := Unit) (Name := ℕ) (U := UU) (Lvl := ℕ) (Val := Elt F) cfg0.spec c : sProp 𝕄) = scratch (F := F) c := by
  rw [scopedRest0_eq]
  have h : ∀ b : Ref sig .tc, (iprop(∃ f : Buf (Elt F) ((c : Thread nD τ).loc b), ((c : Thread nD τ).loc b) ↦{fullShare} f) : sProp 𝕄)
      = iprop(∃ f : Buf (Elt F) ((c : Thread nD τ).loc b), mpt c (Memref.whole b) fullShare f) :=
    fun b => by simp only [whole_pt]
  rw [h cc0_scratch0, h cc0_scratch1, h cc0_scratch2, h cc0_scratch3, h cc0_scratch4, h cc0_scratch5]
  rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch (F := F) c) from rfl, scratch_eq]
  iintro ⟨Hs, -, Hr⟩
  isplitl [Hs] <;> iassumption

/-- The device's arguments and result at the end. -/
def memOut (c : Dev nD) : sProp 𝕄 :=
  bigSep (Finset.univ : Finset (Fin 3)) fun i => (((c : Thread nD τ).loc (match i with | 0 => main_arg0 | 1 => main_arg1 | 2 => main_v1)) ↦{fullShare}
    (match i with | 0 => m ((c : Thread nD τ).loc main_arg0) | 1 => m ((c : Thread nD τ).loc main_arg1) | 2 => OUT m c) : sProp 𝕄)

theorem memEnd_split (c : Dev nD) : memEnd m c ⊢ iprop(memOut m c ∗ scratch (F := F) c) := by
  unfold memOut memEnd scratch
  have three : ∀ Φ : Fin 3 → sProp 𝕄, bigSep Finset.univ Φ = iprop(Φ 0 ∗ Φ 1 ∗ Φ 2) := fun Φ =>
    bigSep_univ_eq_bigSepL [0, 1, 2] (by decide) (by decide) Φ
  iintro ⟨Hx, Hy, Ho, H⟩
  isplitl [Hx Hy Ho]
  · iapply (Entails.of_eq (three _).symm)
    isplitl [Hx]; · iapply (Entails.of_eq (whole_pt c main_arg0 _)); iexact Hx
    isplitl [Hy]; · iapply (Entails.of_eq (whole_pt c main_arg1 _)); iexact Hy
    iapply (Entails.of_eq (whole_pt c main_v1 (OUT m c))); iexact Ho
  · iexact H

theorem phi1_exit (c : Dev nD) :
    (dats m 0 c).Φ (Fin.last cfg0.N) ⊢ iprop((unscopedSems0 c ∗ memOut m c) ∗ Pipeline.ownSems0 osem c ∗ Pipeline.scopedRest cfg0.spec c) := by
  rw [show (dats m 0 c).Φ (Fin.last cfg0.N) = done m c from rfl, scratch_eq]
  unfold done
  rw [sems0_eq]
  iintro ⟨⟨HO, HU⟩, HM⟩
  ihave HM := (memEnd_split m c) $$ HM
  icases HM with ⟨HM, HS⟩
  isplitl [HU HM]
  · isplitl [HU] <;> iassumption
  isplitl [HO] <;> iassumption

theorem waits (c : Dev nD) : (levAts L lv : sProp 𝕄) ⊢ Pipeline.cellsWaits cfgs (dats m) () 0 c :=
  Pipeline.cellsWaits_intro cfgs (dats m) () 0 c fun w _ _ => w.elim0

/-- What a final memory holds on a device, its barrier semaphore at zero. -/
def finalAt (c : Dev nD) (s : MemSt nD τ sig (Elt F)) : Prop :=
  (∀ sm : SemLoc sig, sm.isScoped .tc = false → s.sem ((c.tc : Thread nD τ), sm) = 0)
    ∧ s.mem ((c : Thread nD τ).loc main_v1) = OUT m c
    ∧ s.mem ((c : Thread nD τ).loc main_arg0) = m ((c : Thread nD τ).loc main_arg0)
    ∧ s.mem ((c : Thread nD τ).loc main_arg1) = m ((c : Thread nD τ).loc main_arg1)

theorem read_final (c : Dev nD) (s' : Phys nD τ sig (Elt F)) :
    iprop((unscopedSems0 c ∗ memOut m c) ∗ (emp : sProp 𝕄) ∗ SI s') ⊢ |={Set.univ}=> iprop(⌜finalAt m c s'.mem⌝ ∗ SI s') := by
  unfold memOut
  iintro ⟨⟨Hu, HM⟩, -, HSI⟩
  ihave H := (pointsTo_read_all (Finset.univ : Finset (Fin 3)) _ _ s') $$ [HM HSI]
  · isplitl [HM] <;> iassumption
  icases H with ⟨%hm, HSI⟩
  imod (Pipeline.unscopedSems0_read (X := unscopedSems0 c) (c := c) fupd_intro s') $$ [Hu HSI] with ⟨%hs, HSI⟩
  · isplitl [Hu] <;> iassumption
  imodintro
  isplitr
  · ipureintro
    exact ⟨hs, hm 2 (Finset.mem_univ _), hm 0 (Finset.mem_univ _), hm 1 (Finset.mem_univ _)⟩
  · iexact HSI

set_option maxRecDepth 8000 in
/-- Every run of the kernel ends: with each device's result as computed, its arguments unchanged and every semaphore at zero. -/
theorem run_main : θ_run defs (onTc (τ := τ) (main (F := F))) ⟨m, fun _ => 0, ρ⟩ (fun r => (∀ c : Dev nD,
      r.2.mem ((c : Thread nD τ).loc main_v1) = OUT m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := fun w => w.elim0) (hstage := fun w => w.elim0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ w => w.elim0) (hpf := fun _ k => k.elim0)
    (X := start m) (Y := fun c => iprop(unscopedSems0 c ∗ memOut m c)) (Z := fun _ => iprop(emp))
    (hX := start_intro m ρ) (hin := phi0_intro m) (hout := phi1_exit m)
    (QY := finalAt m) (hY := read_final m)
    (hQ := fun _ h hs => ⟨fun c => (h c).2.2.2, sem_eq_zero hs fun c => (h c).2.2.1⟩)

end Cert.KProof
-- ==== Proof.Value.lean ====
/-

  The value of the result over the ideal floats.

  Each device's own product is a sum of 512 terms. Along the chain the products of the four devices add up, in whatever
  order the two streams met them, so a finished block is the sum of the four products at its rows. Four sums of 512 terms
  over the four row blocks of the arguments are the one sum of 2048 terms that the whole product has there.
-/
module

public import proofs.«01_k».proof.Proof.Run
public import proofs.«01_k».proof.Proof.Gen.ReferenceIdeal.Run
public import Idealize.ShloMosaic.Lib.Pointwise
public import Idealize.ShloMosaic.Lib.Layout

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Value

variable (m : (ℓ : Loc nD τ sig) → Buf (Elt Ideal) ℓ)

set_option backward.proofsInPublic true in
/-- The device in charge of column block `q` at place `z` of its chain. -/
def dev (q z : Fin 4) : Dev nD := ⟨4 * q.val + z.val, by show _ < 16; omega⟩

/-- An entry of a device's own product: the sum over the rows of its blocks of the two arguments. -/
theorem ACC_apply (c : Dev nD) (i : S512x512.Idx) :
    ACC m c i = ∑ t : Fin 512, X m c (ix2 t (i 0)) * DY m c (ix2 t (i 1)) := by
  unfold ACC
  pointwise [k0_pay1]

/-- A finished block is the sum, over the four devices of the chain, of their own products at the block's rows. -/
theorem Q_sum (q z : Fin 4) (j : S128x512.Idx) :
    Q m (dev q z) j = ∑ w : Fin 4, (ACC m (dev q w) ((row z).emb j) : EReal) := by
  have d1 : dn (dev q 1) = dev q 0 := by revert q; decide
  have d2 : dn (dev q 2) = dev q 1 := by revert q; decide
  have d3 : dn (dev q 3) = dev q 2 := by revert q; decide
  have u0 : up (dev q 0) = dev q 1 := by revert q; decide
  have u1 : up (dev q 1) = dev q 2 := by revert q; decide
  have u2 : up (dev q 2) = dev q 3 := by revert q; decide
  have hz : ∀ w : Fin 4, zz (dev q w) = w.val := by clear d1 d2 d3 u0 u1 u2; revert q; decide
  have hf : zf (dev q z) = z := by clear d1 d2 d3 u0 u1 u2 hz; revert q z; decide
  have p0 : PP m (dev q 0) = ACC m (dev q 0) := PP_zero m _ (hz 0)
  have p1 : PP m (dev q 1) = addf (ACC m (dev q 0)) (ACC m (dev q 1)) := by
    rw [PP_succ m _ (by rw [hz]; decide), d1, p0]
  have p2 : PP m (dev q 2) = addf (addf (ACC m (dev q 0)) (ACC m (dev q 1))) (ACC m (dev q 2)) := by
    rw [PP_succ m _ (by rw [hz]; decide), d2, p1]
  have m3 : MM m (dev q 3) = ACC m (dev q 3) := MM_three m _ (hz 3)
  have m2 : MM m (dev q 2) = addf (ACC m (dev q 3)) (ACC m (dev q 2)) := by
    rw [MM_succ m _ (by rw [hz]; decide), u2, m3]
  have m1 : MM m (dev q 1) = addf (addf (ACC m (dev q 3)) (ACC m (dev q 2))) (ACC m (dev q 1)) := by
    rw [MM_succ m _ (by rw [hz]; decide), u1, m2]
  rw [Fin.sum_univ_four]
  unfold Q
  rw [hf, hz]
  obtain rfl | rfl | rfl | rfl : z = 0 ∨ z = 1 ∨ z = 2 ∨ z = 3 := by clear hf; revert z; decide
  · simp only [Nat.lt_irrefl, if_false, u0, m1, show (0 : ℕ) < 3 from by decide, if_true]
    show (ACC m (dev q 0) _ : EReal) + ((ACC m (dev q 3) _ + ACC m (dev q 2) _) + ACC m (dev q 1) _) = _
    abel
  · simp only [show (0 : ℕ) < 1 from by decide, show (1 : ℕ) < 3 from by decide, if_true, d1, p0, u1, m2]
    show ((ACC m (dev q 1) _ : EReal) + ACC m (dev q 0) _) + (ACC m (dev q 3) _ + ACC m (dev q 2) _) = _
    abel
  · simp only [show (0 : ℕ) < 2 from by decide, show (2 : ℕ) < 3 from by decide, if_true, d2, p1, u2, m3]
    show ((ACC m (dev q 2) _ : EReal) + (ACC m (dev q 0) _ + ACC m (dev q 1) _)) + ACC m (dev q 3) _ = _
    abel
  · simp only [show (0 : ℕ) < 3 from by decide, Nat.lt_irrefl, if_true, if_false, d3, p2]
    show (ACC m (dev q 3) _ : EReal) + ((ACC m (dev q 0) _ + ACC m (dev q 1) _) + ACC m (dev q 2) _) = _
    abel

/-- The whole product. -/
abbrev REF (A : FVec Ideal ⟨2, ![2048, 512]⟩ .f32) (B : FVec Ideal ⟨2, ![2048, 2048]⟩ .f32) : FVec Ideal ⟨2, ![512, 2048]⟩ .f32 :=
  Host.dotGeneral Cert.ReferenceIdeal.dot_S512x2048_S2048x2048_S512x2048_1_0_0_1_n_n none
    (transpose Cert.ReferenceIdeal.S512x2048 [1, 0] A Cert.ReferenceIdeal.Gen.facts.transposes_S2048x512_S512x2048_1_0) B

/-- An entry of the whole product: the sum over all 2048 rows. -/
theorem REF_apply (A : FVec Ideal ⟨2, ![2048, 512]⟩ .f32) (B : FVec Ideal ⟨2, ![2048, 2048]⟩ .f32)
    (i : (⟨2, ![512, 2048]⟩ : Shape).Idx) : REF A B i = ∑ t : Fin 2048, A (ix2 t (i 0)) * B (ix2 t (i 1)) := by
  pointwise [REF]

/-- Row `t` of the row block of the device at place `w`, among all rows. -/
def grow (w : Fin 4) (t : Fin 512) : Fin 2048 := ⟨w.val * 512 + t.val, by omega⟩

/-- The block coordinates, along the chain's axis of the mesh, of the arrays' parts a device holds. -/
abbrev zblk (c : Dev nD) := Layout.meshBlock [2, 2, 4] ![[2], []] c

theorem zblk_row (c : Dev nD) : (zblk c 0).val = (zf c).val := by revert c; decide
theorem zblk_col (c : Dev nD) : (zblk c 1).val = 0 := by revert c; decide
theorem zf_dev (q w : Fin 4) : zf (dev q w) = w := by revert q w; decide
theorem qf_dev (q w : Fin 4) : qf (dev q w) = q := by revert q w; decide

theorem mate_dev (c : Dev nD) (q : Fin 4) : mate c q = dev q (zf c) := rfl

/-- An entry of a device's block of the first argument. -/
theorem X_entry (A : FVec Ideal ⟨2, ![2048, 512]⟩ .f32) (q w : Fin 4) (t r : Fin 512) :
    Layout.blockN ⟨2, ![512, 512]⟩ ⟨2, ![2048, 512]⟩ (zblk (dev q w)) A (by decide) (ix2 t r)
      = A (ix2 (grow w t) r) := by
  refine congrArg A (funext fun b => Fin.ext ?_)
  rw [Layout.TilesN.idx_val]
  obtain rfl | rfl : b = 0 ∨ b = 1 := by revert b; decide
  · exact congrArg (· * 512 + t.val) ((zblk_row _).trans (congrArg Fin.val (zf_dev q w)))
  · exact (congrArg (· * 512 + r.val) (zblk_col _)).trans (by rw [Nat.zero_mul, Nat.zero_add]; rfl)

/-- An entry of a device's block of the second argument. -/
theorem Y_entry (B : FVec Ideal ⟨2, ![2048, 2048]⟩ .f32) (q w : Fin 4) (t : Fin 512) (k : Fin 2048) :
    Layout.blockN ⟨2, ![512, 2048]⟩ ⟨2, ![2048, 2048]⟩ (zblk (dev q w)) B (by decide) (ix2 t k)
      = B (ix2 (grow w t) k) := by
  refine congrArg B (funext fun b => Fin.ext ?_)
  rw [Layout.TilesN.idx_val]
  obtain rfl | rfl : b = 0 ∨ b = 1 := by revert b; decide
  · exact congrArg (· * 512 + t.val) ((zblk_row _).trans (congrArg Fin.val (zf_dev q w)))
  · exact (congrArg (· * 2048 + k.val) (zblk_col _)).trans (by rw [Nat.zero_mul, Nat.zero_add]; rfl)

/-- An entry of the column block a device reads of its second argument. -/
theorem DY_entry (q w : Fin 4) (t k : Fin 512) :
    DY m (dev q w) (ix2 t k)
      = (m ((dev q w : Thread nD τ).loc main_arg1) : FVec Ideal S512x2048 .f32) (ix2 t ⟨512 * q.val + k.val, by omega⟩) := by
  unfold DY
  rw [qf_dev]
  refine congrArg (m ((dev q w : Thread nD τ).loc main_arg1)) (funext fun b => Fin.ext ?_)
  change Fin 2 at b
  obtain rfl | rfl : b = 0 ∨ b = 1 := by revert b; decide
  · show 0 + 1 * t.val = t.val; omega
  · show 512 * q.val + 1 * k.val = 512 * q.val + k.val; omega

/-- **The result.** Where every device holds its row blocks of the two arguments, every device's result is its row block
    of the whole product. -/
theorem OUT_eq (A : FVec Ideal ⟨2, ![2048, 512]⟩ .f32) (B : FVec Ideal ⟨2, ![2048, 2048]⟩ .f32)
    (hx : ∀ c : Dev nD, m ((c : Thread nD τ).loc main_arg0)
      = Layout.blockN ⟨2, ![512, 512]⟩ ⟨2, ![2048, 512]⟩ (zblk c) A (by decide))
    (hy : ∀ c : Dev nD, m ((c : Thread nD τ).loc main_arg1)
      = Layout.blockN ⟨2, ![512, 2048]⟩ ⟨2, ![2048, 2048]⟩ (zblk c) B (by decide))
    (c : Dev nD) :
    OUT m c = Layout.blockN ⟨2, ![128, 2048]⟩ ⟨2, ![512, 2048]⟩ (zblk c) (REF A B) (by decide) := by
  funext i
  rw [Layout.blockN_apply, REF_apply, Fin.sum_univ_tiles 4 512 rfl]
  unfold OUT
  rw [mate_dev, Q_sum]
  refine Finset.sum_congr rfl fun w _ => ?_
  rw [ACC_apply]
  refine Finset.sum_congr rfl fun t _ => ?_
  unfold X
  rw [hx]
  refine congrArg₂ (fun (a b : EReal) => a * b)
    ((X_entry A _ w t _).trans (congrArg (fun r => A (ix2 (grow w t) r)) (Fin.ext ?_)))
    ((DY_entry m _ w t _).trans ((congrFun (hy _) _).trans ((Y_entry B _ w t _).trans
      (congrArg (fun r => B (ix2 (grow w t) r)) (Fin.ext ?_)))))
  · rw [Layout.TilesN.idx_val]
    refine Eq.trans ?_ (congrArg (· * 128 + (i 0).val) (zblk_row c)).symm
    show 128 * (zf c).val + 1 * (i 0).val = (zf c).val * 128 + (i 0).val
    omega
  · rw [Layout.TilesN.idx_val]
    refine Eq.trans ?_ (congrArg (· * 2048 + (i 1).val) (zblk_col c)).symm
    show 512 * ((i 1).val / 512) + (0 + 1 * ((i 1).val % 512)) = 0 * 2048 + (i 1).val
    omega

end Value

end Cert.KProof
-- ==== Proof.lean ====
/-
  The certificate: the frames from the kernel's run (Proof/Run.lean) and the reference's, and the value of the result
  (Proof/Value.lean).
-/
module

public import proofs.«01_k».proof.Defs
public import proofs.«01_k».proof.Proof.Value
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The idealized kernel runs, leaves its arguments as they were and every semaphore at zero. -/
theorem frame_ideal : Cert.quiescent_KernelIdeal := fun m ρ _ =>
  (θ_run Cert.KernelIdeal.defs _ _).mono (fun _ h => ⟨fun c => (h.1 c).2, h.2⟩) (Cert.KProof.run_main (F := Ideal) m ρ)

/-- The kernel does the same on floats: its text is the idealized one's, whose run is proved for any float values. -/
theorem frame_kernel : Cert.quiescent_Kernel := fun m ρ _ =>
  (θ_run Cert.KernelIdeal.defs _ _).mono (fun _ h => ⟨fun c => (h.1 c).2, h.2⟩) (Cert.KProof.run_main (F := Bits) m ρ)

/-- The reference runs and leaves its arguments as they were; it has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with its row block of the whole product, which is the reference's result. -/
theorem value : Cert.algebraic_KernelIdeal_ReferenceIdeal := fun m ρ m' ρ' _ hargs =>
  ⟨_, (θ_run Cert.KernelIdeal.defs _ _).mono
      (fun _ h c => ⟨(h.1 c).1.trans (Cert.KProof.OUT_eq m _ _ (fun c => (hargs c).1) (fun c => (hargs c).2) c), (h.1 c).2⟩)
      (Cert.KProof.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_ref, trivial, value⟩

end Cert.Proof

end
